-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![32768, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x2048 : Shape := ⟨2, ![2048, 2048]⟩
abbrev S2048x1024 : Shape := ⟨2, ![2048, 1024]⟩
abbrev S3x2048x1024 : Shape := ⟨3, ![3, 2048, 1024]⟩
abbrev S4 : Shape := ⟨1, ![4]⟩
abbrev S8 : Shape := ⟨1, ![8]⟩
abbrev S3 : Shape := ⟨1, ![3]⟩
abbrev S1 : Shape := ⟨1, ![1]⟩
abbrev S_ : Shape := ⟨0, ![]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S3x2048x1024, .bf16⟩
  | .local _ .vmem, ⟨4, _⟩ => ⟨S3x2048x1024, .bf16⟩
  | .local _ .vmem, ⟨5, _⟩ => ⟨S2048x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c3_i32
  let c4_i32_5 : BitVec 32 := 4#32
  let v9 : BitVec 32 := Scalar.remsi v8 c4_i32_5
  let c2048_i32 : BitVec 32 := 2048#32
  let v10 : BitVec 32 := Scalar.muli v9 c2048_i32
  let c0_i32_9 : BitVec 32 := 0#32
  ![v10.toNat, 0]
def k0_off2 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.addi v2 c1_i32_6
  let c4_i32_7 : BitVec 32 := 4#32
  let v12 : BitVec 32 := Scalar.remsi v11 c4_i32_7
  let c2048_i32_8 : BitVec 32 := 2048#32
  let v13 : BitVec 32 := Scalar.muli v12 c2048_i32_8
  let c1024_i32 : BitVec 32 := 1024#32
  ![v13.toNat, 1024]
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_21 : BitVec 32 := 1#32
  let v33 : BitVec 32 := Scalar.muli v5 c1_i32_21
  let v34 : BitVec 32 := Scalar.addi c0_i32_22 v33
  v34.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_24 : BitVec 32 := 1#32
  let v35 : BitVec 32 := Scalar.muli v7 c1_i32_24
  let v36 : BitVec 32 := Scalar.addi c0_i32_25 v35
  v36.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_34 : BitVec 32 := 1#32
  let v43 : BitVec 32 := Scalar.muli v7 c1_i32_34
  let v44 : BitVec 32 := Scalar.addi c0_i32_35 v43
  v44.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_41 : BitVec 32 := 1#32
  let v51 : BitVec 32 := Scalar.muli v5 c1_i32_41
  let v52 : BitVec 32 := Scalar.addi c0_i32_42 v51
  v52.toNat
def k0_off3 (d0 : Dev nD) (c1_i32_91 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_90 : BitVec 32 := 2#32
  let v99 : BitVec 32 := Scalar.addi v2 c2_i32_90
  let v100 : BitVec 32 := Scalar.subi v99 c1_i32_91
  let c4_i32_92 : BitVec 32 := 4#32
  let v101 : BitVec 32 := Scalar.remsi v100 c4_i32_92
  let c2048_i32_93 : BitVec 32 := 2048#32
  let v102 : BitVec 32 := Scalar.muli v101 c2048_i32_93
  let c0_i32_99 : BitVec 32 := 0#32
  ![v102.toNat, 0]
def k0_off4 (d0 : Dev nD) (c2_i32_94 : BitVec 32) (c1_i32_95 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v103 : BitVec 32 := Scalar.addi v2 c2_i32_94
  let v104 : BitVec 32 := Scalar.addi v103 c1_i32_95
  let c4_i32_96 : BitVec 32 := 4#32
  let v105 : BitVec 32 := Scalar.remsi v104 c4_i32_96
  let c2048_i32_97 : BitVec 32 := 2048#32
  let v106 : BitVec 32 := Scalar.muli v105 c2048_i32_97
  let c1024_i32_101 : BitVec 32 := 1024#32
  ![v106.toNat, 1024]
def k0_off4_at (r : Fin 5) : BitVec 32 × BitVec 32 :=
  if r.val < 2 then
    if r.val < 1 then
      (2#32, 1#32)
    else
      (2#32, 2#32)
  else
    if r.val < 3 then
      (1#32, 0#32)
    else
      if r.val < 4 then
        (1#32, 1#32)
      else
        (1#32, 2#32)
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_106 : BitVec 32 := 1#32
  let v113 : BitVec 32 := Scalar.muli v7 c1_i32_106
  let v114 : BitVec 32 := Scalar.addi c0_i32_107 v113
  v114.toNat
def k0_dev6 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_116 : BitVec 32 := 1#32
  let v123 : BitVec 32 := Scalar.muli v5 c1_i32_116
  let v124 : BitVec 32 := Scalar.addi c0_i32_117 v123
  v124.toNat
def k0_dev7 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_195 : BitVec 32 := 1#32
  let v195 : BitVec 32 := Scalar.muli v7 c1_i32_195
  let v196 : BitVec 32 := Scalar.addi c0_i32_196 v195
  v196.toNat
def k0_dev8 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_205 : BitVec 32 := 1#32
  let v205 : BitVec 32 := Scalar.muli v5 c1_i32_205
  let v206 : BitVec 32 := Scalar.addi c0_i32_206 v205
  v206.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_310 : BitVec 32 := 4#32
  let v315 : BitVec 32 := Scalar.remsi v2 c4_i32_310
  let c2048_i32_311 : BitVec 32 := 2048#32
  let v316 : BitVec 32 := Scalar.muli v315 c2048_i32_311
  let c0_i32_314 : BitVec 32 := 0#32
  ![v316.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_312 : BitVec 32 := 4#32
  let v317 : BitVec 32 := Scalar.remsi v2 c4_i32_312
  let c2048_i32_313 : BitVec 32 := 2048#32
  let v318 : BitVec 32 := Scalar.muli v317 c2048_i32_313
  let c1024_i32_315 : BitVec 32 := 1024#32
  ![v318.toNat, 1024]
def k0_dev9 (d0 : Dev nD) : Nat :=
  let c0_i32_320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_319 : BitVec 32 := 1#32
  let v325 : BitVec 32 := Scalar.muli v7 c1_i32_319
  let v326 : BitVec 32 := Scalar.addi c0_i32_320 v325
  v326.toNat
def k0_dev10 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_326 : BitVec 32 := 1#32
  let v333 : BitVec 32 := Scalar.muli v5 c1_i32_326
  let v334 : BitVec 32 := Scalar.addi c0_i32_327 v333
  v334.toNat
def k0_off7 (d0 : Dev nD) (c0_i32_357 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_356 : BitVec 32 := 1#32
  let v361 : BitVec 32 := Scalar.subi v2 c1_i32_356
  let v362 : BitVec 32 := Scalar.subi v361 c0_i32_357
  let c4_i32_358 : BitVec 32 := 4#32
  let v363 : BitVec 32 := Scalar.addi v362 c4_i32_358
  let c4_i32_359 : BitVec 32 := 4#32
  let v364 : BitVec 32 := Scalar.remsi v363 c4_i32_359
  let c2048_i32_360 : BitVec 32 := 2048#32
  let v365 : BitVec 32 := Scalar.muli v364 c2048_i32_360
  let c0_i32_367 : BitVec 32 := 0#32
  ![v365.toNat, 0]
def k0_dev11 (d0 : Dev nD) : Nat :=
  let c0_i32_380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_379 : BitVec 32 := 1#32
  let v380 : BitVec 32 := Scalar.muli v7 c1_i32_379
  let v381 : BitVec 32 := Scalar.addi c0_i32_380 v380
  v381.toNat
def k0_dev12 (d0 : Dev nD) : Nat :=
  let c0_i32_390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_389 : BitVec 32 := 1#32
  let v390 : BitVec 32 := Scalar.muli v5 c1_i32_389
  let v391 : BitVec 32 := Scalar.addi c0_i32_390 v390
  v391.toNat
def k0_dev13 (d0 : Dev nD) : Nat :=
  let c0_i32_457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_456 : BitVec 32 := 1#32
  let v447 : BitVec 32 := Scalar.muli v7 c1_i32_456
  let v448 : BitVec 32 := Scalar.addi c0_i32_457 v447
  v448.toNat
def k0_dev14 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_466 : BitVec 32 := 1#32
  let v457 : BitVec 32 := Scalar.muli v5 c1_i32_466
  let v458 : BitVec 32 := Scalar.addi c0_i32_467 v457
  v458.toNat
abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x2048 : Shape := ⟨2, ![32768, 2048]⟩
abbrev S2048x2048 : Shape := ⟨2, ![2048, 2048]⟩
abbrev S4x8192x2048 : Shape := ⟨3, ![4, 8192, 2048]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S4x8192x2048, .bf16⟩
  | .hbm, ⟨3, _⟩ => ⟨S4x8192x2048, .f32⟩
  | .hbm, ⟨4, _⟩ => ⟨S_, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Ring.lean ====
/-
# The ring, the buffers, and what each transfer carries

The four devices form a ring. Two streams run round it in lockstep: stream `false` (the first column half of `t`)
moves to the next device, stream `true` (the second half) to the previous one. This file names the devices' neighbours,
the buffers and blocks the kernel touches, the semaphore each transfer signals, and the contents each transfer carries.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## The ring -/

set_option backward.proofsInPublic true in
/-- The next device round the ring. -/
def nxt (c : Dev nD) : Dev nD := ⟨(c.val + 1) % 4, Nat.mod_lt _ (by decide)⟩
set_option backward.proofsInPublic true in
/-- The previous device round the ring. -/
def prv (c : Dev nD) : Dev nD := ⟨(c.val + 3) % 4, Nat.mod_lt _ (by decide)⟩

/-- The device stream `d` moves to. -/
def fwd (d : Bool) (c : Dev nD) : Dev nD := match d with | false => nxt c | true => prv c
/-- The device stream `d` comes from. -/
def bwd (d : Bool) (c : Dev nD) : Dev nD := match d with | false => prv c | true => nxt c

/-- A device's target comes from it. -/
theorem bwd_fwd (d : Bool) (c : Dev nD) : bwd d (fwd d c) = c := by revert d c; decide
/-- A device is the target of the one its stream comes from. -/
theorem fwd_bwd (d : Bool) (c : Dev nD) : fwd d (bwd d c) = c := by revert d c; decide
/-- The two streams run opposite ways. -/
theorem fwd_not (d : Bool) (c : Dev nD) : fwd (!d) c = bwd d c := by cases d <;> rfl
/-- The two streams come from opposite sides. -/
theorem bwd_not (d : Bool) (c : Dev nD) : bwd (!d) c = fwd d c := by cases d <;> rfl

/-- Moving along stream `d`, as a permutation of the devices. -/
def ring (d : Bool) : Dev nD ≃ Dev nD := ⟨fwd d, bwd d, bwd_fwd d, fwd_bwd d⟩

set_option backward.proofsInPublic true in
/-- The row chunk device `c` adds at stage `i` of stream `d`. -/
def ch (d : Bool) (i : ℕ) (c : Dev nD) : Fin 4 :=
  match d with
  | false => ⟨(c.val + 7 - i % 4) % 4, Nat.mod_lt _ (by decide)⟩
  | true => ⟨(c.val + 1 + i) % 4, Nat.mod_lt _ (by decide)⟩

/-! ## The buffers -/

/-- The device's block of the argument `t`. -/
abbrev tM : Memref sig .tc .hbm S8192x2048 .bf16 := Memref.whole main_arg0
/-- The result. -/
abbrev vM : Memref sig .tc .hbm S8192x2048 .bf16 := Memref.whole main_v1
/-- The staged weight. -/
abbrev wM : Memref sig .tc .vmem S2048x2048 .bf16 := Memref.whole cc0_stg0_0

/-- Stream `d`'s buffer for the chunk to be added. -/
def bufS (d : Bool) : Memref sig .tc .vmem S2048x1024 .bf16 := match d with | false => Memref.whole cc0_scratch0 | true => Memref.whole cc0_scratch1
/-- Stream `d`'s three receive slots. -/
def bufR (d : Bool) : Memref sig .tc .vmem S3x2048x1024 .bf16 := match d with | false => Memref.whole cc0_scratch2 | true => Memref.whole cc0_scratch3
/-- Stream `d`'s buffer for the first chunk sent and, later, for the device's own half of the product. -/
def bufO (d : Bool) : Memref sig .tc .vmem S2048x1024 .bf16 := match d with | false => Memref.whole cc0_scratch4 | true => Memref.whole cc0_scratch5

set_option backward.proofsInPublic true in
/-- The rectangle of slot `h` in a buffer of three slots. -/
abbrev slotR (h : Fin 3) : Rect S3x2048x1024 :=
  Rect.unit (s := S3x2048x1024) ![h.val, 0, 0] S1x2048x1024.size (by revert h; decide)
/-- Slot `h` of a buffer of three slots. -/
abbrev slotOf (M : Memref sig .tc .vmem S3x2048x1024 .bf16) (h : Fin 3) : Memref sig .tc .vmem S2048x1024 .bf16 :=
  (M.slice (slotR h) (fun _ => rfl)).squeeze S2048x1024 squeezes_S1x2048x1024_S2048x1024
/-- Receive slot `h` of stream `d`. -/
def slot (d : Bool) (h : Fin 3) : Memref sig .tc .vmem S2048x1024 .bf16 := slotOf (bufR d) h

/-- The column half stream `d` works on. -/
def col (d : Bool) : Fin 2 := match d with | false => 0 | true => 1

set_option backward.proofsInPublic true in
/-- The rectangle of row chunk `e`, column half `j` of an 8192 × 2048 array. -/
abbrev blkR (e : Fin 4) (j : Fin 2) : Rect S8192x2048 :=
  Rect.unit (s := S8192x2048) ![2048 * e.val, 1024 * j.val] S2048x1024.size (by revert e j; decide)
/-- Row chunk `e`, column half `j` of an 8192 × 2048 array. -/
abbrev blk (M : Memref sig .tc .hbm S8192x2048 .bf16) (e : Fin 4) (j : Fin 2) : Memref sig .tc .hbm S2048x1024 .bf16 :=
  M.slice (blkR e j) (fun _ => rfl)

/-! ## What the transfers carry -/

variable (m : (ℓ : Loc nD τ sig) → Buf (Elt F) ℓ)

/-- Device `c`'s block of `t` at row chunk `e`, column half of stream `d`. -/
def tBlk (c : Dev nD) (e : Fin 4) (d : Bool) : Vec F S2048x1024 .bf16 :=
  (blk tM e (col d)).view.read (Elt F) (m ((c : Thread nD τ).loc main_arg0))

/-- The running sum of stream `d` that device `c` holds after stage `i`: what came from its neighbour plus its own chunk. -/
def acc (d : Bool) : ℕ → Dev nD → Vec F S2048x1024 .bf16
  | 0, c => tBlk m c (ch d 0 c) d
  | i + 1, c => addf (acc d i (bwd d c)) (tBlk m c (ch d (i + 1) c) d)

/-- The weight as device `c` stages it. -/
def wS (c : Dev nD) : (cc0_stg0_0 : Ref sig .tc).ty.Contents (Elt F) :=
  (win0_0.blk (0 : Fin 1)).view.read (Elt F) (m ((c : Thread nD τ).loc main_arg1))

set_option backward.proofsInPublic true in
/-- The quarter of the weight at row half `i`, column half `j`. -/
abbrev wR (i j : Fin 2) : Rect S2048x2048 :=
  Rect.unit (s := S2048x2048) ![1024 * i.val, 1024 * j.val] S1024x1024.size (by revert i j; decide)
/-- A quarter of the staged weight. -/
def wQ (c : Dev nD) (i j : Fin 2) : Vec F S1024x1024 .bf16 := wM.view.readAt (Elt F) (wR i j).toLoadRect (wS m c)

set_option backward.proofsInPublic true in
/-- The rectangle of row half `w` of a chunk. -/
abbrev halfR (w : Fin 2) : Rect S2048x1024 :=
  Rect.unit (s := S2048x1024) ![1024 * w.val, 0] S1024x1024.size (by revert w; decide)

/-- Row half `w` of a chunk. -/
def rowHalf (w : Fin 2) (X : Vec F S2048x1024 .bf16) : Vec F S1024x1024 .bf16 := fun j => X ((halfR w).emb j)

/-- One 1024 × 1024 block of device `c`'s half of the product: row half `w`, column half of stream `d`. -/
def outQ (c : Dev nD) (w : Fin 2) (d : Bool) : FVec F S1024x1024 .bf16 :=
  k0_pay10 (rowHalf w (acc m false 3 c)) (rowHalf w (acc m true 3 c)) (k0_pay9 (wQ m c 0 (col d))) (wQ m c 1 (col d))

set_option backward.proofsInPublic true in
/-- Device `c`'s row chunk of the product, column half of stream `d`: its two row halves, one above the other. -/
def outv (d : Bool) (c : Dev nD) : Vec F S2048x1024 .bf16 := fun i =>
  if h : (i 0).val < 1024 then outQ m c 0 d (ix2 ⟨(i 0).val, h⟩ (i 1))
  else outQ m c 1 d (ix2 ⟨(i 0).val - 1024, by have h2 : (i 0).val < 2048 := (i 0).isLt; omega⟩ (i 1))

/-- What device `c` sends on stream `d` at hop `q`: a running sum at the first three hops, a finished half at the others. -/
def snt (d : Bool) (q : ℕ) (c : Dev nD) : Vec F S2048x1024 .bf16 :=
  if q < 3 then acc m d q c else outv m d ((bwd d)^[q - 3] c)

/-- Where hop `q` of stream `d` sends from. -/
def srcM (d : Bool) (q : Fin 6) : Memref sig .tc .vmem S2048x1024 .bf16 :=
  match q with | 0 => bufO d | 1 => slot d 0 | 2 => slot d 1 | 3 => bufO d | 4 => slot d 0 | 5 => slot d 1
/-- Where hop `q` of stream `d` lands. -/
def dstM (d : Bool) (q : Fin 6) : Memref sig .tc .vmem S2048x1024 .bf16 :=
  match q with | 0 => slot d 0 | 1 => slot d 1 | 2 => slot d 2 | 3 => slot d 0 | 4 => slot d 1 | 5 => slot d 2

/-- The share of its source a hop reads at: all of it, or half when the result is stored from the same buffer meanwhile. -/
def shr (q : Fin 6) : PosShare TreeShare := if q.val < 3 then fullShare else fullShare.left

/-! ## The semaphores -/

/-- The semaphore that hop `q` of stream `d` signals on its sender. -/
def kS (d : Bool) (q : Fin 6) : Fin 37 := ⟨13 + 12 * (q.val / 3) + (if d then 6 else 0) + q.val % 3, by revert d q; decide⟩
/-- The semaphore that hop `q` of stream `d` signals on its receiver. -/
def kR (d : Bool) (q : Fin 6) : Fin 37 := ⟨16 + 12 * (q.val / 3) + (if d then 6 else 0) + q.val % 3, by revert d q; decide⟩
/-- The semaphore on which chunk `i` of stream `d` is loaded. -/
def kL (d : Bool) (i : Fin 4) : Fin 37 := ⟨(if i.val = 0 then 1 else 3) + (if d then 1 else 0), by revert d i; decide⟩
/-- The round of that semaphore at which chunk `i` is loaded. -/
def rL (i : Fin 4) : ℕ := i.val - 1
/-- The semaphore on which block `i` of stream `d` of the result is stored. -/
def kO (d : Bool) (i : Fin 4) : Fin 37 := ⟨(if i.val = 0 then 11 else 3 + 2 * i.val) + (if d then 1 else 0), by revert d i; decide⟩

end Cert.Ring
-- ==== Proof.Sched.lean ====
/-
# The schedule

Every semaphore of the kernel is a cell with a schedule of rounds: who pays into it, how much, and which resources come
with the payment. The barrier cell of device `c` is paid once by each neighbour, who hands over the receive slots that
`c` will write. A transfer's receive cell is paid by the transfer's sender with the landed chunk; a send cell returns
the source; a load or store cell returns both ends of the copy.
-/
module

public import proofs.«01_k».proof.Proof.Ring

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the kernel's rounds, duties named by booleans. -/
abbrev UB : Type := URounds (GSem nD τ sig) Bool
/-- The ghost state of the whole run: the pipeline's and the kernel's. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The kernel's part of the ghost state. -/
abbrev ER : Emb UB (MT nD τ sig Unit (Elt F) ℕ UU ℕ) := embR

variable (m : (ℓ : Loc nD τ sig) → Buf (Elt F) ℓ)

/-! ## The cells -/

/-- Semaphore `k` of the kernel: the barrier for `0`, a transfer semaphore otherwise. -/
abbrev sem (k : Fin 37) : SemLoc sig := if k = 0 then .reg (0 : Sem sig) else .dma ⟨k.val, k.isLt⟩
/-- Semaphore `k` on device `c`. -/
abbrev cell (c : Dev nD) (k : Fin 37) : GSem nD τ sig := ((c : Thread nD τ), sem k)

/-- A transfer semaphore's cell. -/
theorem sem_dma (k : Fin 37) (h : k ≠ 0) : sem k = .dma ⟨k.val, k.isLt⟩ := if_neg h
/-- The barrier's cell. -/
theorem sem_zero : sem 0 = .reg (0 : Sem sig) := rfl

/-- Which of the kernel's semaphores a cell is. -/
def kOf (s : SemLoc sig) : Fin 37 := match s with | .reg _ => 0 | .dma q => ⟨q.val, q.isLt⟩

/-- The number of a semaphore is recovered from it. -/
theorem kOf_sem (k : Fin 37) : kOf (sem k) = k := by revert k; decide

/-- The stream of a transfer semaphore between devices. -/
def dOf (k : Fin 37) : Bool := decide (6 ≤ (k.val - 13) % 12)
/-- The hop of a transfer semaphore between devices. -/
def qOf (k : Fin 37) : Fin 6 := ⟨3 * ((k.val - 13) / 12) + (k.val - 13) % 3, by revert k; decide⟩

/-- The credit of one chunk's transfer. -/
abbrev N : ℕ := (Memref.whole cc0_scratch0 : Memref sig .tc .vmem S2048x1024 .bf16).view.dmaCredit
/-- A chunk's transfer has some credit. -/
theorem N_pos : 0 < N := View.dmaCredit_pos _ (by decide)

/-! ## The payloads -/

/-- Receive slot `h` of stream `d` on device `c`, at any contents. -/
def anySlot (d : Bool) (h : Fin 3) (c : Dev nD) : sProp 𝕄 := iprop(∃ X : Vec F S2048x1024 .bf16, owns (c : Thread nD τ) (slot d h) fullShare X)
/-- The three receive slots of stream `d` on device `c`. -/
def slots (d : Bool) (c : Dev nD) : sProp 𝕄 := iprop(anySlot (F := F) d 0 c ∗ anySlot (F := F) d 1 c ∗ anySlot (F := F) d 2 c)

/-- What a send returns: its source. -/
def sendPay (d : Bool) (q : Fin 6) (c : Dev nD) : sProp 𝕄 := owns (c : Thread nD τ) (srcM d q) (shr q) (snt m d q.val c)
/-- What device `c` hands over with hop `q` of stream `d` besides the chunk: its own slots of the other stream that it
    has finished with, for the chunks its target will send back. -/
def extra (d : Bool) (q : Fin 6) (c : Dev nD) : sProp 𝕄 :=
  match q with
  | 2 => anySlot (F := F) (!d) 0 c
  | 3 => iprop(anySlot (F := F) (!d) 1 c ∗ anySlot (F := F) (!d) 2 c)
  | _ => iprop(emp)
/-- What a receive brings: the landed chunk and the slots its sender hands over. -/
def recvPay (d : Bool) (q : Fin 6) (c : Dev nD) : sProp 𝕄 :=
  iprop(owns (c : Thread nD τ) (dstM d q) fullShare (snt m d q.val (bwd d c)) ∗ extra (F := F) d q (bwd d c))

/-- The buffer that chunk `i` of stream `d` is loaded into. -/
def dstL (d : Bool) (i : Fin 4) : Memref sig .tc .vmem S2048x1024 .bf16 := if i = 0 then bufO d else bufS d
/-- What a load brings: the loaded chunk, and the block of the argument back. -/
def loadPay (d : Bool) (i : Fin 4) (c : Dev nD) : sProp 𝕄 :=
  iprop(owns (c : Thread nD τ) (dstL d i) fullShare (tBlk m c (ch d i.val c) d)
    ∗ owns (c : Thread nD τ) (blk tM (ch d i.val c) (col d)) fullShare (tBlk m c (ch d i.val c) d))

/-- The buffer that block `i` of stream `d` of the result is stored from. -/
def srcO (d : Bool) (i : Fin 4) : Memref sig .tc .vmem S2048x1024 .bf16 :=
  match i with | 0 => bufO d | 1 => slot d 0 | 2 => slot d 1 | 3 => slot d 2
/-- What a store brings: the stored block of the result, and its source back. -/
def storePay (d : Bool) (i : Fin 4) (c : Dev nD) : sProp 𝕄 :=
  iprop(owns (c : Thread nD τ) (blk vM ((bwd d)^[i.val] c) (col d)) fullShare (outv m d ((bwd d)^[i.val] c))
    ∗ owns (c : Thread nD τ) (srcO d i) fullShare.right (outv m d ((bwd d)^[i.val] c)))

/-- What comes with duty `b` of round `r` of semaphore `k` on device `c`. -/
def pay (c : Dev nD) (k : Fin 37) (r : ℕ) (b : Bool) : sProp 𝕄 :=
  if k.val = 0 then slots (F := F) b (fwd b c)
  else if k.val < 3 then loadPay m (decide (k.val = 2)) 0 c
  else if k.val < 5 then loadPay m (decide (k.val = 4)) (match r with | 0 => 1 | 1 => 2 | _ => 3) c
  else if k.val < 11 then storePay m (decide (k.val % 2 = 0)) (match (k.val - 5) / 2 with | 0 => 1 | 1 => 2 | _ => 3) c
  else if k.val < 13 then storePay m (decide (k.val = 12)) 0 c
  else if (k.val - 13) % 6 < 3 then sendPay m (dOf k) (qOf k) c
  else recvPay m (dOf k) (qOf k) c

instance anySlot_storable (d : Bool) (h : Fin 3) (c : Dev nD) : BI.Storable (upEmb : UEmb _ 𝕄) (anySlot (F := F) d h c) := by
  unfold anySlot; infer_instance
instance slots_storable (d : Bool) (c : Dev nD) : BI.Storable (upEmb : UEmb _ 𝕄) (slots (F := F) d c) := by
  unfold slots; infer_instance
instance extra_storable (d : Bool) (q : Fin 6) (c : Dev nD) : BI.Storable (upEmb : UEmb _ 𝕄) (extra (F := F) d q c) := by
  unfold extra; split <;> infer_instance
instance pay_storable (c : Dev nD) (k : Fin 37) (r : ℕ) (b : Bool) : BI.Storable (upEmb : UEmb _ 𝕄) (pay (F := F) m c k r b) := by
  unfold pay loadPay storePay sendPay recvPay
  (repeat' split) <;> infer_instance

/-! ## The schedule -/

/-- The duties of round `r` of semaphore `k`: the barrier's two in round 0, one in each of the three rounds of the two
    reused load semaphores, one in round 0 of every other. -/
def dutiesOf (k : Fin 37) (r : ℕ) : Finset Bool :=
  if k.val = 0 then (if r = 0 then Finset.univ else ∅)
  else if k.val = 3 ∨ k.val = 4 then (if r < 3 then {false} else ∅)
  else if r = 0 then {false} else ∅

/-- The schedule of the kernel's cells. -/
def Rd : Rounds.Schedule (GSem nD τ sig) Bool 𝕄 where
  duties g r := dutiesOf (kOf g.2) r
  unitless _ := False
  amount g _ _ := if (kOf g.2).val = 0 then 1 else N
  payload g r b := pay m g.1.1 (kOf g.2) r b
  amount_pos g _ _ _ := by
    by_cases h : (kOf g.2).val = 0
    · rw [if_pos h]; exact Nat.one_pos
    · rw [if_neg h]; exact N_pos

instance Rd_storable (g : GSem nD τ sig) (r : ℕ) (b : Bool) : BI.Storable (upEmb : UEmb _ 𝕄) ((Rd (F := F) m).payload g r b) :=
  pay_storable m g.1.1 (kOf g.2) r b

omit [FloatOps F] in
/-- A cell's number, as the schedule reads it. -/
theorem kOf_cell (c : Dev nD) (k : Fin 37) : kOf (cell c k).2 = k := kOf_sem k

/-- The duties of a cell. -/
theorem duties_cell (c : Dev nD) (k : Fin 37) (r : ℕ) : (Rd (F := F) m).duties (cell c k) r = dutiesOf k r := by
  show dutiesOf (kOf (sem k)) r = _; rw [kOf_sem]
/-- The payload of a cell. -/
theorem payload_cell (c : Dev nD) (k : Fin 37) (r : ℕ) (b : Bool) : (Rd (F := F) m).payload (cell c k) r b = pay m c k r b := by
  show pay m c (kOf (sem k)) r b = _; rw [kOf_sem]
/-- The amount of a transfer cell's duty. -/
theorem amount_cell (c : Dev nD) (k : Fin 37) (hk : k ≠ 0) (r : ℕ) (b : Bool) : (Rd (F := F) m).amount (cell c k) r b = N := by
  show (if (kOf (sem k)).val = 0 then 1 else N) = N
  rw [kOf_sem, if_neg (show ¬ k.val = 0 from fun h => hk (Fin.ext h))]
/-- The amount of a barrier cell's duty. -/
theorem amount_bar (c : Dev nD) (r : ℕ) (b : Bool) : (Rd (F := F) m).amount (cell c 0) r b = 1 := rfl

/-- From round 3 on no cell has a duty. -/
theorem duties_late (g : GSem nD τ sig) (r : ℕ) (hr : 3 ≤ r) : (Rd (F := F) m).duties g r = ∅ := by
  show dutiesOf (kOf g.2) r = ∅
  unfold dutiesOf
  (repeat' split) <;> first | rfl | omega
/-- A cell other than the two reused ones has no duty after round 0. -/
theorem duties_once (c : Dev nD) (k : Fin 37) (h3 : k.val ≠ 3) (h4 : k.val ≠ 4) (r : ℕ) (hr : 1 ≤ r) : (Rd (F := F) m).duties (cell c k) r = ∅ := by
  rw [duties_cell]; unfold dutiesOf
  rw [if_neg (show ¬(k.val = 3 ∨ k.val = 4) by omega)]
  (repeat' split) <;> first | rfl | omega

/-- The barrier expects one unit of each neighbour. -/
theorem expect_bar (c : Dev nD) : (Rd (F := F) m).expect (cell c 0) 0 = 2 := by
  unfold Schedule.expect Schedule.amountOf
  rw [duties_cell, Finset.sum_congr rfl fun d _ => amount_bar m c 0 d, show dutiesOf 0 0 = Finset.univ from rfl, Finset.sum_const, Finset.card_univ,
    Fintype.card_bool, smul_eq_mul]
/-- A transfer cell with one duty in a round expects one chunk's credit. -/
theorem expect_cell (c : Dev nD) (k : Fin 37) (hk : k ≠ 0) (r : ℕ) (hd : dutiesOf k r = {false}) : (Rd (F := F) m).expect (cell c k) r = N := by
  unfold Schedule.expect Schedule.amountOf
  rw [duties_cell, hd, Finset.sum_singleton, amount_cell m c k hk]
/-- What is received in a round of one duty. -/
theorem rest_cell (c : Dev nD) (k : Fin 37) (r : ℕ) (hd : dutiesOf k r = {false}) :
    bigSep ((Rd (F := F) m).duties (cell c k) r \ ∅) (fun d => (Rd (F := F) m).payload (cell c k) r d) = pay m c k r false := by
  rw [Finset.sdiff_empty, duties_cell, hd, bigSep_singleton, payload_cell]
/-- What is received at the barrier: the slots of both streams' targets. -/
theorem rest_bar (c : Dev nD) :
    bigSep ((Rd (F := F) m).duties (cell c 0) 0 \ ∅) (fun d => (Rd (F := F) m).payload (cell c 0) 0 d)
      = iprop(slots (F := F) false (nxt c) ∗ slots (F := F) true (prv c)) := by
  rw [Finset.sdiff_empty, duties_cell, show dutiesOf 0 0 = Finset.univ from rfl, bigSep_univ_eq_bigSepL [false, true] (by decide) (by decide),
    bigSepL_cons_cons, bigSepL_singleton, payload_cell, payload_cell]
  rfl

/-! ### The tables by stream and hop -/

/-- A send cell's payload. -/
theorem pay_send (c : Dev nD) (d : Bool) (q : Fin 6) : pay (F := F) m c (kS d q) 0 false = sendPay m d q c := by
  cases d <;> fin_cases q <;> rfl
/-- A receive cell's payload. -/
theorem pay_recv (c : Dev nD) (d : Bool) (q : Fin 6) : pay (F := F) m c (kR d q) 0 false = recvPay m d q c := by
  cases d <;> fin_cases q <;> rfl
/-- A load cell's payload. -/
theorem pay_load (c : Dev nD) (d : Bool) (i : Fin 4) : pay (F := F) m c (kL d i) (rL i) false = loadPay m d i c := by
  cases d <;> fin_cases i <;> rfl
/-- A store cell's payload. -/
theorem pay_store (c : Dev nD) (d : Bool) (i : Fin 4) : pay (F := F) m c (kO d i) 0 false = storePay m d i c := by
  cases d <;> fin_cases i <;> rfl
/-- The barrier's payloads. -/
theorem pay_bar (c : Dev nD) (b : Bool) : pay (F := F) m c 0 0 b = slots (F := F) b (fwd b c) := rfl

omit [FloatOps F] in
/-- A send cell has one duty. -/
theorem dut_send (d : Bool) (q : Fin 6) : dutiesOf (kS d q) 0 = {false} := by revert d q; decide
/-- A receive cell has one duty. -/
theorem dut_recv (d : Bool) (q : Fin 6) : dutiesOf (kR d q) 0 = {false} := by revert d q; decide
/-- A load cell has one duty in the round of its chunk. -/
theorem dut_load (d : Bool) (i : Fin 4) : dutiesOf (kL d i) (rL i) = {false} := by revert d i; decide
/-- A store cell has one duty. -/
theorem dut_store (d : Bool) (i : Fin 4) : dutiesOf (kO d i) 0 = {false} := by revert d i; decide
/-- A send cell is not the barrier. -/
theorem kS_ne (d : Bool) (q : Fin 6) : kS d q ≠ 0 := by revert d q; decide
/-- A receive cell is not the barrier. -/
theorem kR_ne (d : Bool) (q : Fin 6) : kR d q ≠ 0 := by revert d q; decide
/-- A load cell is not the barrier. -/
theorem kL_ne (d : Bool) (i : Fin 4) : kL d i ≠ 0 := by revert d i; decide
/-- A store cell is not the barrier. -/
theorem kO_ne (d : Bool) (i : Fin 4) : kO d i ≠ 0 := by revert d i; decide

/-! ## What a device owes, and the levels of the waits -/

/-- The `n`-th last thing device `c` owes: innermost the receive credits of the last hop, outermost the two barrier units. -/
def owed (c : Dev nD) (n : ℕ) : GSem nD τ sig :=
  if n = 13 then cell (prv c) 0 else if n = 12 then cell (nxt c) 0
  else if n % 2 = 1 then cell (nxt c) (kR false ⟨(11 - n) / 2 % 6, Nat.mod_lt _ (by decide)⟩)
  else cell (prv c) (kR true ⟨(10 - n) / 2 % 6, Nat.mod_lt _ (by decide)⟩)
/-- Its amount. -/
def owedN (n : ℕ) : ℕ := if 12 ≤ n then 1 else N

/-- What device `c` still owes when the last `n` of its payments are to come. -/
def Ow (c : Dev nD) : ℕ → CellTallies nD τ sig Unit
  | 0 => 0
  | n + 1 => Ow c n + tallyAt (owed c n) () (owedN n)

/-- Every cell of a core's thread has one index. -/
def L (g : GSem nD τ sig) : Finset Unit := if g.1.2 = .tc then {()} else ∅
/-- The level of a semaphore: the barrier below the receive semaphores, these in the order of the hops, everything else lowest. -/
def lvS (s : SemLoc sig) : ℕ :=
  match s with
  | .reg _ => 2
  | .dma k => if 13 ≤ k.val ∧ 3 ≤ (k.val - 13) % 6 then 3 + 2 * (qOf ⟨k.val, k.isLt⟩).val + (if dOf ⟨k.val, k.isLt⟩ then 1 else 0) else 0

/-- The level of a cell: its semaphore's. -/
def lv (g : GSem nD τ sig) (_ : Unit) : ℕ := lvS g.2

/-- Only cores' threads have indices. -/
theorem L_of_ne (g : GSem nD τ sig) (h : g.1.2 ≠ .tc) : L g = ∅ := if_neg h
/-- A core's cell has its index. -/
theorem L_tc (c : Dev nD) (sm : SemLoc sig) : L ((c : Thread nD τ), sm) = {()} := if_pos rfl

/-- The level of what is owed `n`-th last. -/
def lvOf (n : ℕ) : ℕ := if 12 ≤ n then 2 else 14 - n

/-- The level of an owed cell. -/
theorem lv_owed (c : Dev nD) (n : ℕ) (hn : n < 14) : lv (owed c n) () = lvOf n := by
  revert c; interval_cases n <;> decide
/-- An owed cell is a core's. -/
theorem owed_tc (c : Dev nD) (n : ℕ) : (owed c n).1.2 = .tc := by
  unfold owed; (repeat' split) <;> rfl

/-- A cell at which something is owed is one of those listed. -/
theorem Ow_pos {c : Dev nD} {n : ℕ} {g : GSem nD τ sig} {u : Unit} (h : 0 < Ow c n g u) : ∃ i, i < n ∧ g = owed c i := by
  induction n with
  | zero => exact absurd h (by show ¬ 0 < (0 : CellTallies nD τ sig Unit) g u; simp)
  | succ n ih =>
    unfold Ow at h
    rw [Pi.add_apply, Finsupp.add_apply, tallyAt_apply] at h
    by_cases hg : g = owed c n
    · exact ⟨n, Nat.lt_succ_self n, hg⟩
    · rw [if_neg (fun h' => hg h'.1), Nat.add_zero] at h
      obtain ⟨i, hi, e⟩ := ih h
      exact ⟨i, Nat.lt_succ_of_lt hi, e⟩

omit [FloatOps F] in
/-- A device may wait on a cell whose level is below all it still owes. -/
theorem mayWait (c : Dev nD) (sm : SemLoc sig) (n : ℕ) (hn : n ≤ 14) (h : ∀ i, i < n → lvS sm < lvOf i) :
    (levAts L lv : sProp 𝕄) ⊢ MayWait (c : Thread nD τ) sm () (Ow c n) :=
  MayOwe.of_cut (L := L) (lev := lv) (lv ((c : Thread nD τ), sm) ())
    (fun p hp => by rw [Finset.mem_singleton.mp hp, L_tc]; exact Finset.mem_singleton_self _)
    (fun g u hg => by
      obtain ⟨i, hi, rfl⟩ := Ow_pos hg
      rw [show L (owed c i) = {()} from if_pos (owed_tc c i)]; exact Finset.mem_singleton_self _)
    (fun p hp => by rw [Finset.mem_singleton.mp hp])
    (fun g u hg => by
      obtain ⟨i, hi, rfl⟩ := Ow_pos hg
      rw [lv_owed c i (by omega)]; exact h i hi)

end Cert.Ring
-- ==== Proof.Steps.lean ====
/-
# One step at a time

The kernel's effects, each as a rule over whole chunks: start a load or a store, start a hop, wait for a transfer, signal
and wait at the barrier.
-/
module

public import proofs.«01_k».proof.Proof.Sched

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop of the kernel needs a variant. -/
abbrev 𝒱₀ : Variants := Variants.none

/-! ## The standing facts -/

/-- Every cell's invariant, that every cell's round 0 is open, and the levels. -/
def records (K : Dev nD × Fin 37 → ℕ) : sProp 𝕄 :=
  iprop((bigSep Finset.univ fun p : Dev nD × Fin 37 => cellInv ER (Rd m) (K p) (cell p.1 p.2))
    ∗ (bigSep Finset.univ fun p : Dev nD × Fin 37 => reached ER (cell p.1 p.2) 0) ∗ levAts L lv)

instance records_persistent (K : Dev nD × Fin 37 → ℕ) : BI.Persistent (records (F := F) m K) := by unfold records; infer_instance

/-- A cell's invariant is among the standing facts. -/
theorem rec_inv (K : Dev nD × Fin 37 → ℕ) (c : Dev nD) (k : Fin 37) : records (F := F) m K ⊢ cellInv ER (Rd m) (K (c, k)) (cell c k) := by
  unfold records
  iintro ⟨H, -, -⟩
  iapply (show (bigSep Finset.univ fun p : Dev nD × Fin 37 => cellInv ER (Rd m) (K p) (cell p.1 p.2)) ⊢ cellInv ER (Rd m) (K (c, k)) (cell c k)
    from bigSep_elim (Finset.mem_univ (c, k))) $$ H
/-- That a cell's round 0 is open is among the standing facts. -/
theorem rec_reached (K : Dev nD × Fin 37 → ℕ) (c : Dev nD) (k : Fin 37) : records (F := F) m K ⊢ reached ER (cell c k) 0 := by
  unfold records
  iintro ⟨-, H, -⟩
  iapply (show (bigSep Finset.univ fun p : Dev nD × Fin 37 => reached ER (cell p.1 p.2) 0) ⊢ (reached ER (cell c k) 0 : sProp 𝕄)
    from bigSep_elim (Finset.mem_univ (c, k))) $$ H
/-- The levels are among the standing facts. -/
theorem rec_lev (K : Dev nD × Fin 37 → ℕ) : records (F := F) m K ⊢ levAts L lv := by
  unfold records
  iintro ⟨-, -, H⟩; iexact H

/-- A device's position on one of its cells: it is at round `r`, which is open. -/
def At (c : Dev nD) (k : Fin 37) (r : ℕ) : sProp 𝕄 := iprop(atPos ER (cell c k) r ∅ 0 ∗ reached ER (cell c k) r)

/-! ## Waits -/

/-- The wait for a transfer on cell `k`, in a round of one duty: the round's payload, and the next round is open. -/
theorem wp_wait (K : Dev nD × Fin 37 → ℕ) (c : Dev nD) (k : Fin 37) (hk : k ≠ 0) (r n : ℕ) (hd : dutiesOf k r = {false}) (hn : n ≤ 14)
    (hlv : ∀ i, i < n → lvS (sem k) < lvOf i)
    {q : DmaSem sig} (hq : q = ⟨k.val, k.isLt⟩) {sp sp' : Space} {s : Shape} {e : EltTy} {src : Memref sig .tc sp s e} {dst : Memref sig .tc sp' s e}
    {hsrc : src.view.WordExact} {hdst : dst.view.WordExact} (hN : dst.view.dmaCredit = N)
    {α : Type} {Q : α → sProp 𝕄} {kk : PUnit → Prog (TpuEff nD τ sig (Elt F) Λ₀ .tc) α} (W : Waits sig Unit) (P : sProp 𝕄)
    (hP : pay m c k r false = P) :
    iprop(records m K ∗ cred (tallyAt (cell c k) () N) ∗ owes (c : Thread nD τ) (Ow c n) W ∗ At c k r)
      ⊢ iprop(((owes (c : Thread nD τ) (Ow c n) (insert (sem k, ()) W) ∗ At c k (r + 1) ∗ P)
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q src dst hsrc hdst) kk) Q) := by
  subst hP hq
  unfold At
  rw [show (cred (tallyAt (cell c k) () N) : sProp 𝕄) = cred (tallyAt (cell c k) () dst.view.dmaCredit) by rw [hN], sem_dma k hk]
  iintro ⟨#HR, Hc, HO, Hat, #Hr⟩ Hk
  ihave #HI := (rec_inv m K c k) $$ HR
  ihave #HL := (rec_lev m K) $$ HR
  ihave HM := (mayWait c (sem k) n hn hlv) $$ HL
  rw [cell, sem_dma k hk] at *
  iapply (Rounds.wp_wait_rest_token 𝒱₀ ER (Rd m) (c : Thread nD τ) none (κ := K (c, k))
      (wpE_waitDma2_eq 𝒱₀ (c : Thread nD τ) none Set.univ) (Set.mem_univ _) () (O := Ow c n) (W := W) (R := r) (m := 0) (T := ∅)
      (by rw [Nat.zero_add, hN]; have := expect_cell m c k hk r hd; rw [cell, sem_dma k hk] at this; exact this.symm)) $$ [Hc HO HM Hat]
  · isplitr; · iexact HI
    isplitl [Hc]; · iexact Hc
    isplitl [HO]; · iexact HO
    isplitl [HM]; · iexact HM
    iexact Hat
  iintro ⟨HO, Hat, Hr', Hpay⟩
  iapply Hk
  isplitl [HO]; · iexact HO
  isplitl [Hat Hr']
  · isplitl [Hat]; · iexact Hat
    iexact Hr'
  have hrest := rest_cell m c k r hd
  rw [cell, sem_dma k hk] at hrest
  iapply (Entails.of_eq hrest); iexact Hpay

/-- The wait at the barrier: both neighbours' receive slots come with it. -/
theorem wp_barWait (K : Dev nD × Fin 37 → ℕ) (c : Dev nD)
    {q : Sem sig} (hq : q = (0 : Sem sig)) {α : Type} {Q : α → sProp 𝕄} {kk : PUnit → Prog (TpuEff nD τ sig (Elt F) Λ₀ .tc) α} (W : Waits sig Unit) :
    iprop(records m K ∗ cred (tallyAt (cell c 0) () 2) ∗ owes (c : Thread nD τ) (Ow c 12) W ∗ At c 0 0)
      ⊢ iprop(((owes (c : Thread nD τ) (Ow c 12) (insert (sem 0, ()) W) ∗ At c 0 1 ∗ slots (F := F) false (nxt c) ∗ slots (F := F) true (prv c))
          -∗ wp frame (wpE (defs₀ (F := F)) 𝒱₀ (c : Thread nD τ) none) Set.univ (kk ⟨⟩) Q)
        -∗ wp frame (wpE (defs₀ (F := F)) 𝒱₀ (c : Thread nD τ) none) Set.univ (.op (.semWait q 2) kk) Q) := by
  subst hq
  unfold At
  iintro ⟨#HR, Hc, HO, Hat, #Hr⟩ Hk
  ihave #HI := (rec_inv m K c 0) $$ HR
  ihave #HL := (rec_lev m K) $$ HR
  ihave HM := (mayWait c (sem 0) 12 (by decide) (by decide)) $$ HL
  iapply (Rounds.wp_wait_rest_token 𝒱₀ ER (Rd m) (c : Thread nD τ) none (κ := K (c, 0))
      (wpE_semWait_eq 𝒱₀ (c : Thread nD τ) none Set.univ) (Set.mem_univ _) () (O := Ow c 12) (W := W) (R := 0) (m := 0) (T := ∅)
      ((Nat.zero_add _).trans (expect_bar m c).symm)) $$ [Hc HO HM Hat]
  · isplitr; · iexact HI
    isplitl [Hc]; · iexact Hc
    isplitl [HO]; · iexact HO
    isplitl [HM]; · iexact HM
    iexact Hat
  iintro ⟨HO, Hat, Hr', Hpay⟩
  iapply Hk
  isplitl [HO]; · iexact HO
  isplitl [Hat Hr']
  · isplitl [Hat]; · iexact Hat
    iexact Hr'
  iapply (Entails.of_eq (rest_bar m c)); iexact Hpay

/-- The signal of the barrier of the device stream `d` comes from: the own receive slots of stream `d` go with it. -/
theorem wp_barSignal (K : Dev nD × Fin 37 → ℕ) (c : Dev nD) (d : Bool) (n : ℕ) (ho : owed c n = cell (bwd d c) 0) (hn : owedN n = 1)
    {c' : Dev nD} (hc : c' = bwd d c)
    {q : Sem sig} (hq : q = (0 : Sem sig)) {α : Type} {Q : α → sProp 𝕄} {kk : PUnit → Prog (TpuEff nD τ sig (Elt F) Λ₀ .tc) α} (W : Waits sig Unit) :
    iprop(records m K ∗ owes (c : Thread nD τ) (Ow c (n + 1)) W ∗ dutyTok ER (cell (bwd d c) 0) 0 d ∗ slots (F := F) d c)
      ⊢ iprop((owes (c : Thread nD τ) (Ow c n) W
          -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (c' : Thread nD τ) q 1) kk) Q) := by
  subst hq hc
  iintro ⟨#HR, HO, Ht, Hs⟩ Hk
  ihave #HI := (rec_inv m K (bwd d c) 0) $$ HR
  ihave #Hr := (rec_reached m K (bwd d c) 0) $$ HR
  iapply (Rounds.wp_signal 𝒱₀ ER (Rd m) (c : Thread nD τ) none (dst := (bwd d c : Thread nD τ)) (κ := K (bwd d c, 0)) (r := 0)
      (d := d) (by show d ∈ (Rd (F := F) m).duties (cell (bwd d c) 0) 0; rw [duties_cell]; exact Finset.mem_univ _) (amount_bar m (bwd d c) 0 d) () (O₀ := Ow c (n + 1)) (Ow c n)
      (by show Ow c n + tallyAt (owed c n) () (owedN n) = _; rw [ho, hn]; rfl))
    $$ [HO Ht Hs]
  · isplitr; · iexact HI
    isplitl [HO]; · iexact HO
    isplitl [Ht]; · iexact Ht
    isplitl [Hs]
    · have e : (Rd (F := F) m).payload ((bwd d c : Thread nD τ), SemLoc.reg (0 : Sem sig)) 0 d = slots (F := F) d c :=
        (payload_cell (F := F) m (bwd d c) 0 0 d).trans (by rw [pay_bar, fwd_bwd])
      iapply (Entails.of_eq e.symm); iexact Hs
    · iexact Hr
  iexact Hk

/-! ## Copies -/

omit [FloatOps F] in
/-- What a copy leaves in its destination. -/
theorem owns_written (c : Thread nD τ) {sp : Space} {s : Shape} {e : EltTy} (dst : Memref sig c.2.kind sp s e)
    (fd : Buf (Elt F) (dst.view.loc c)) (X : s.Idx → Elt F e) :
    (dst.view.loc c ↦[dst.view.set]{fullShare} (dst.view.write (Elt F) fd X Finset.univ) : sProp 𝕄) ⊢ owns c dst fullShare X := by
  have e := owns_intro (Ix := Unit) (Name := ℕ) (U := UU) (Lvl := ℕ) c dst fullShare (dst.view.write (Elt F) fd X Finset.univ)
  rwa [View.read_write_univ] at e

/-- Start a copy on the own device: the cell's duty is paid by the copy, which brings `P` when it has landed. -/
theorem wp_copy (K : Dev nD × Fin 37 → ℕ) (c : Dev nD) (k : Fin 37) (hk : k ≠ 0) (r : ℕ) (hd : dutiesOf k r = {false})
    {q : DmaSem sig} (hq : q = ⟨k.val, k.isLt⟩) {sp sp' : Space} {s : Shape} {e : EltTy} {src : Memref sig .tc sp s e} {dst : Memref sig .tc sp' s e}
    {hsrc : src.view.WordExact} {hdst : dst.view.WordExact} {hsem : (DmaTarget.here dst : DmaTarget nD τ sig (.tc : Proc τ) sp' s e).Typed sp (SemLoc.dma q)} (hN : dst.view.dmaCredit = N)
    {α : Type} {Q : α → sProp 𝕄} {kk : PUnit → Prog (TpuEff nD τ sig (Elt F) Λ₀ .tc) α} (sh : PosShare TreeShare) (X Y : s.Idx → Elt F e)
    (hpay : iprop(owns (c : Thread nD τ) dst fullShare X ∗ owns (c : Thread nD τ) src sh X) ⊢ pay m c k r false) :
    iprop(records m K ∗ reached ER (cell c k) r ∗ dutyTok ER (cell c k) r false ∗ owns (c : Thread nD τ) src sh X ∗ owns (c : Thread nD τ) dst fullShare Y)
      ⊢ iprop((cred (tallyAt (cell c k) () N)
          -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.here dst) (.dma q) hsrc hdst hsem) kk) Q) := by
  subst hq
  have hdu : false ∈ (Rd (F := F) m).duties (cell c k) r := by rw [duties_cell, hd]; exact Finset.mem_singleton_self _
  have ham := amount_cell (F := F) m c k hk r false
  have hpl := payload_cell (F := F) m c k r false
  have hpay' := hpay
  iintro ⟨#HR, #Hr, Ht, Hs, Hd⟩ Hk
  ihave #HI := (rec_inv m K c k) $$ HR
  rw [cell, sem_dma k hk] at *
  unfold owns
  icases Hs with ⟨%fs, %hfs, Hs⟩
  icases Hd with ⟨%fd, %hfd, Hd⟩
  iapply (Rounds.wp_copy_pointsTo 𝒱₀ ER (Rd m) (c : Thread nD τ) none (κ := K (c, k)) (r := r) (d := false) (fs := fs) (fd := fd) (q := sh)
      hdu () N hN ham (by
        rw [hpl]
        refine BIBase.Entails.trans ?_ hpay'
        refine BIClass.sep_mono ?_ ?_
        · rw [hfs]; exact owns_written (c : Thread nD τ) dst fd X
        · unfold owns; iintro H; iexists fs; isplitr; · ipureintro; exact hfs
          iexact H)) $$ [Ht Hs Hd]
  · isplitr; · iexact HI
    isplitl [Hs]; · iexact Hs
    isplitl [Hd]; · iexact Hd
    isplitl [Ht]; · iexact Ht
    iexact Hr
  iexact Hk

/-- Start hop `q` of stream `d`: the source is lent, the target's slot and the slots handed over go with it. -/
theorem wp_hop (K : Dev nD × Fin 37 → ℕ) (c : Dev nD) (d : Bool) (q : Fin 6) (n : ℕ) (ho : owed c n = cell (fwd d c) (kR d q)) (hn : owedN n = N)
    {c' : Dev nD} (hc : c' = fwd d c) {qS qR : DmaSem sig} (hqS : qS = ⟨(kS d q).val, (kS d q).isLt⟩) (hqR : qR = ⟨(kR d q).val, (kR d q).isLt⟩)
    {src dst : Memref sig .tc .vmem S2048x1024 .bf16} (hsr : src = srcM d q) (hds : dst = dstM d q)
    {hsc : (dst : Memref sig (Dev.tc c' : Thread nD τ).2.kind .vmem S2048x1024 .bf16).view.ref.isScScratch = false}
    {hsrc : src.view.WordExact} {hdst : dst.view.WordExact}
    {hsem : DmaTarget.Typed .vmem (.dma qR) (.remote (Dev.tc c' : Thread nD τ) dst (.dma qS) hsc)}
    {α : Type} {Q : α → sProp 𝕄} {kk : PUnit → Prog (TpuEff nD τ sig (Elt F) Λ₀ .tc) α} (W : Waits sig Unit) :
    iprop(records m K ∗ dutyTok ER (cell c (kS d q)) 0 false ∗ dutyTok ER (cell (fwd d c) (kR d q)) 0 false
        ∗ sendPay m d q c ∗ (∃ Y : Vec F S2048x1024 .bf16, owns (fwd d c : Thread nD τ) (dstM d q) fullShare Y) ∗ extra (F := F) d q c
        ∗ owes (c : Thread nD τ) (Ow c (n + 1)) W)
      ⊢ iprop(((cred (tallyAt (cell c (kS d q)) () N) ∗ owes (c : Thread nD τ) (Ow c n) W)
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc c' : Thread nD τ) dst (.dma qS) hsc) (.dma qR) hsrc hdst hsem) kk) Q) := by
  subst hc hqS hqR hsr hds
  have hdS : false ∈ (Rd (F := F) m).duties (cell c (kS d q)) 0 := by rw [duties_cell, dut_send]; exact Finset.mem_singleton_self _
  have hdR : false ∈ (Rd (F := F) m).duties (cell (fwd d c) (kR d q)) 0 := by rw [duties_cell, dut_recv]; exact Finset.mem_singleton_self _
  have haS := amount_cell (F := F) m c (kS d q) (kS_ne d q) 0 false
  have haR := amount_cell (F := F) m (fwd d c) (kR d q) (kR_ne d q) 0 false
  have hpS := payload_cell (F := F) m c (kS d q) 0 false
  have hpR := payload_cell (F := F) m (fwd d c) (kR d q) 0 false
  rw [pay_send] at hpS
  rw [pay_recv] at hpR
  have hO : Ow c (n + 1) = Ow c n + tallyAt (cell (fwd d c) (kR d q)) () N := by show Ow c n + _ = _; rw [ho, hn]
  have hN : (dstM d q).view.dmaCredit = N := by cases d <;> fin_cases q <;> rfl
  rw [hO]
  unfold sendPay at hpS ⊢
  iintro ⟨#HR, HtS, HtR, Hs, ⟨%Y, Hd⟩, He, HO⟩ Hk
  ihave #HIS := (rec_inv m K c (kS d q)) $$ HR
  ihave #HIR := (rec_inv m K (fwd d c) (kR d q)) $$ HR
  ihave #HrS := (rec_reached m K c (kS d q)) $$ HR
  ihave #HrR := (rec_reached m K (fwd d c) (kR d q)) $$ HR
  rw [cell, sem_dma _ (kS_ne d q)] at hdS haS hpS
  rw [cell, sem_dma _ (kR_ne d q)] at hdR haR hpR
  simp only [cell, sem_dma _ (kS_ne d q), sem_dma _ (kR_ne d q)]
  unfold owns
  icases Hs with ⟨%fs, %hfs, Hs⟩
  icases Hd with ⟨%fd, %hfd, Hd⟩
  iapply (Rounds.wp_send_pointsTo_with 𝒱₀ ER (Rd m) (c : Thread nD τ) none (κ₁ := K (c, kS d q)) (κ₂ := K (fwd d c, kR d q)) (r₁ := 0) (r₂ := 0)
      (d₁ := false) (d₂ := false) (fs := fs) (fd := fd) (q := shr q) (F := extra (F := F) d q c)
      hdS hdR () () N hN haS haR (Ow c n) rfl (W := W) (by
        rw [hpS]; unfold owns
        iintro H; iexists fs; isplitr; · ipureintro; exact hfs
        iexact H) (by
        rw [hpR]; unfold recvPay; rw [bwd_fwd]
        refine sep_mono_left ?_
        rw [hfs]; exact owns_written (fwd d c : Thread nD τ) (dstM d q) fd _)) $$ [HtS HtR Hs Hd He HO]
  · isplitr; · iexact HIS
    isplitr; · iexact HIR
    isplitl [Hs]; · iexact Hs
    isplitl [Hd He]
    · isplitl [Hd]; · iexact Hd
      iexact He
    isplitl [HO]; · iexact HO
    isplitl [HtS]; · iexact HtS
    isplitr; · iexact HrS
    isplitl [HtR]; · iexact HtR
    iexact HrR
  iexact Hk

end Cert.Ring
-- ==== Proof.Loads.lean ====
/-
# Loads, stores and the arithmetic on a chunk

The vector loads and stores of the kernel as rules over whole chunks: a slot is loaded and stored whole, a half of a slot
is loaded for the product, and each half of the product is stored in one half of its buffer.
-/
module

public import proofs.«01_k».proof.Proof.Steps

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## Recasting a slot's contents -/

omit [FloatOps F] in
/-- Recasting to the slab's shape and back changes nothing. -/
theorem cast_slab (X : Vec F S2048x1024 .bf16) :
    shapeCast S2048x1024 (shapeCast S1x2048x1024 X shapeCasts_S2048x1024_S1x2048x1024) shapeCasts_S1x2048x1024_S2048x1024 = X := by
  funext j
  show X (Shape.reshapeEquiv _ (Shape.reshapeEquiv _ j)) = X j
  rw [Shape.reshapeEquiv_reshapeEquiv, Shape.reshapeEquiv_self]
omit [FloatOps F] in
/-- Recasting from the slab's shape and back changes nothing. -/
theorem slab_cast (X : Vec F S1x2048x1024 .bf16) :
    shapeCast S1x2048x1024 (shapeCast S2048x1024 X shapeCasts_S1x2048x1024_S2048x1024) shapeCasts_S2048x1024_S1x2048x1024 = X := by
  funext j
  show X (Shape.reshapeEquiv _ (Shape.reshapeEquiv _ j)) = X j
  rw [Shape.reshapeEquiv_reshapeEquiv, Shape.reshapeEquiv_self]
omit [FloatOps F] in
/-- Recasting from the half slab's shape and back changes nothing. -/
theorem half_cast (X : Vec F S1x1024x1024 .bf16) (h : S1x1024x1024.ShapeCasts S1024x1024) (h' : S1024x1024.ShapeCasts S1x1024x1024) :
    shapeCast S1x1024x1024 (shapeCast S1024x1024 X h) h' = X := by
  funext j
  show X (Shape.reshapeEquiv _ (Shape.reshapeEquiv _ j)) = X j
  rw [Shape.reshapeEquiv_reshapeEquiv, Shape.reshapeEquiv_self]
/-- Half a chunk as a slab. -/
theorem casts_half : S1024x1024.ShapeCasts S1x1024x1024 := by decide
omit [FloatOps F] in
/-- Recasting to the half slab's shape and back changes nothing. -/
theorem cast_half (X : Vec F S1024x1024 .bf16) :
    shapeCast S1024x1024 (shapeCast S1x1024x1024 X casts_half) shapeCasts_S1x1024x1024_S1024x1024 = X := by
  funext j
  show X (Shape.reshapeEquiv _ (Shape.reshapeEquiv _ j)) = X j
  rw [Shape.reshapeEquiv_reshapeEquiv, Shape.reshapeEquiv_self]

/-- What an accumulation stores, recast to the chunk's shape, is the sum. -/
theorem acc_sum (X Y : Vec F S2048x1024 .bf16) :
    shapeCast S2048x1024 (k0_pay1 (shapeCast S1x2048x1024 X shapeCasts_S2048x1024_S1x2048x1024) Y) shapeCasts_S1x2048x1024_S2048x1024
      = (addf X Y : Vec F S2048x1024 .bf16) := by
  unfold k0_pay1
  rw [cast_slab, cast_slab]

/-! ## Slots -/

variable {α : Type} {Q : α → sProp (MT nD τ sig Unit (Elt F) ℕ UU ℕ)}

omit [FloatOps F] in
/-- A slot's points-to, addressed through any rectangle of its buffer. -/
theorem slot_owns (c : Dev nD) (d : Bool) (h : Fin 3) (sh : PosShare TreeShare) (X : Vec F S2048x1024 .bf16) (r : Rect S3x2048x1024) :
    (owns (c : Thread nD τ) (slot d h) sh X : sProp (MT nD τ sig Unit (Elt F) ℕ UU ℕ))
      = iprop(∃ f : Buf (Elt F) (((bufR d).access r).loc (c : Thread nD τ)), ⌜(slot d h).view.read (Elt F) f = X⌝
          ∗ (((bufR d).access r).loc (c : Thread nD τ) ↦[((bufR d).view.slice (slotR h)).set]{sh} f)) := by
  unfold owns
  rw [show (slot d h).view.set = ((bufR d).view.slice (slotR h)).set from View.set_reshape _ _]
  rfl
omit [FloatOps F] in
/-- The place of an entry of half `w` in slot `h`. -/
theorem half_emb (h : Fin 3) (w : Fin 2) (inb : ∀ a, ![h.val, 1024 * w.val, 0] a + S1x1024x1024.size a ≤ S3x2048x1024.size a) (j : S1024x1024.Idx) :
    (Rect.unit (s := S3x2048x1024) ![h.val, 1024 * w.val, 0] S1x1024x1024.size inb).emb (Shape.reshapeEquiv shapeCasts_S1x1024x1024_S1024x1024 j)
      = (slotR h).emb (Shape.reshapeEquiv shapeCasts_S1x2048x1024_S2048x1024 ((halfR w).emb j)) := by
  have e1 : Shape.reshapeEquiv shapeCasts_S1x1024x1024_S1024x1024 j = ix3 ⟨0, Nat.one_pos⟩ (j 0) (j 1) :=
    (congrArg (Shape.reshapeEquiv _) (ValueIdx.eq_ix2 j)).trans (ValueIdx.reshapeEquiv_ix2_1ab _ _ _)
  have e2 : Shape.reshapeEquiv shapeCasts_S1x2048x1024_S2048x1024 ((halfR w).emb j) = ix3 ⟨0, Nat.one_pos⟩ ((halfR w).emb j 0) ((halfR w).emb j 1) :=
    (congrArg (Shape.reshapeEquiv _) (ValueIdx.eq_ix2 ((halfR w).emb j))).trans (ValueIdx.reshapeEquiv_ix2_1ab _ _ _)
  rw [e1, e2]
  funext a
  apply Fin.ext
  fin_cases a <;> simp [Rect.emb, Rect.unit, ix3]

/-- Load slot `h` of stream `d`. -/
theorem wp_loadSlot (c : Dev nD) (d : Bool) (h : Fin 3) (sh : PosShare TreeShare) (X : Vec F S2048x1024 .bf16)
    {M : Memref sig .tc .vmem S3x2048x1024 .bf16} (hM : M = bufR d) {off : Fin 3 → ℕ} {inb : ∀ a, off a + S1x2048x1024.size a ≤ S3x2048x1024.size a}
    (ho : off = ![h.val, 0, 0]) {hl : M.view.LoadsAt (Rect.unit (s := S3x2048x1024) off S1x2048x1024.size inb).toLoadRect}
    {kk : Vec F S1x2048x1024 .bf16 → Prog (TpuEff nD τ sig (Elt F) Λ₀ .tc) α} :
    owns (c : Thread nD τ) (slot d h) sh X
      ⊢ iprop((owns (c : Thread nD τ) (slot d h) sh X
          -∗ wp frame (wpE (defs₀ (F := F)) 𝒱₀ (c : Thread nD τ) none) Set.univ (kk (shapeCast S1x2048x1024 X shapeCasts_S2048x1024_S1x2048x1024)) Q)
        -∗ wp frame (wpE (defs₀ (F := F)) 𝒱₀ (c : Thread nD τ) none) Set.univ
            (.op (.load M (Rect.unit (s := S3x2048x1024) off S1x2048x1024.size inb).toLoadRect hl) kk) Q) := by
  subst hM ho
  rw [slot_owns c d h sh X (slotR h)]
  iintro ⟨%f, %hf, H⟩ Hk
  have hv : (bufR d).view.readAt (Elt F) (slotR h).toLoadRect f = shapeCast S1x2048x1024 X shapeCasts_S2048x1024_S1x2048x1024 := by
    rw [← hf]; exact (slab_cast _).symm
  rw [← hv]
  iapply (wp_load_rect 𝒱₀ (c : Thread nD τ) none Set.univ (m := bufR d) (r := slotR h) (S := ((bufR d).view.slice (slotR h)).set)
    (f := f) (Finset.Subset.refl _)) $$ H
  iintro H
  iapply Hk
  iexists f
  isplitr; · ipureintro; exact hf
  iexact H

/-- Store slot `h` of stream `d`. -/
theorem wp_storeSlot (c : Dev nD) (d : Bool) (h : Fin 3) (X : Vec F S2048x1024 .bf16) (w : Vec F S1x2048x1024 .bf16)
    {M : Memref sig .tc .vmem S3x2048x1024 .bf16} (hM : M = bufR d) {off : Fin 3 → ℕ} {inb : ∀ a, off a + S1x2048x1024.size a ≤ S3x2048x1024.size a}
    (ho : off = ![h.val, 0, 0]) {hx : (M.access (Rect.unit (s := S3x2048x1024) off S1x2048x1024.size inb)).Stores Finset.univ}
    {hm : (Finset.univ : Finset (Rect.unit (s := S3x2048x1024) off S1x2048x1024.size inb).shape.Idx) = Finset.univ
      ∨ ∀ a, (Rect.unit (s := S3x2048x1024) off S1x2048x1024.size inb).stride a = 1}
    {kk : PUnit → Prog (TpuEff nD τ sig (Elt F) Λ₀ .tc) α} :
    owns (c : Thread nD τ) (slot d h) fullShare X
      ⊢ iprop((owns (c : Thread nD τ) (slot d h) fullShare (shapeCast S2048x1024 w shapeCasts_S1x2048x1024_S2048x1024)
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.store M (Rect.unit (s := S3x2048x1024) off S1x2048x1024.size inb) w Finset.univ hx hm) kk) Q) := by
  subst hM ho
  rw [slot_owns c d h fullShare X (slotR h), slot_owns c d h fullShare (shapeCast S2048x1024 w shapeCasts_S1x2048x1024_S2048x1024) (slotR h)]
  iintro ⟨%f, %hf, H⟩ Hk
  iapply (wp_store 𝒱₀ (c : Thread nD τ) none Set.univ (m := bufR d) (r := slotR h) (S := ((bufR d).view.slice (slotR h)).set)
    (f := f) (Finset.Subset.refl _)) $$ H
  iintro H
  iapply Hk
  iexists (((bufR d).view.slice (slotR h)).write (Elt F) f w Finset.univ)
  isplitr
  · ipureintro
    show shapeCast S2048x1024 (((bufR d).view.slice (slotR h)).read (Elt F) (((bufR d).view.slice (slotR h)).write (Elt F) f w Finset.univ)) _ = _
    rw [View.read_write_univ]
  iexact H

/-- Load row half `w` of slot `h` of stream `d`. -/
theorem wp_loadHalf (c : Dev nD) (d : Bool) (h : Fin 3) (w : Fin 2) (sh : PosShare TreeShare) (X : Vec F S2048x1024 .bf16)
    {M : Memref sig .tc .vmem S3x2048x1024 .bf16} (hM : M = bufR d) {off : Fin 3 → ℕ} {inb : ∀ a, off a + S1x1024x1024.size a ≤ S3x2048x1024.size a}
    (ho : off = ![h.val, 1024 * w.val, 0]) {hl : M.view.LoadsAt (Rect.unit (s := S3x2048x1024) off S1x1024x1024.size inb).toLoadRect}
    {kk : Vec F S1x1024x1024 .bf16 → Prog (TpuEff nD τ sig (Elt F) Λ₀ .tc) α} :
    owns (c : Thread nD τ) (slot d h) sh X
      ⊢ iprop((owns (c : Thread nD τ) (slot d h) sh X
          -∗ wp frame (wpE (defs₀ (F := F)) 𝒱₀ (c : Thread nD τ) none) Set.univ (kk (shapeCast S1x1024x1024 (rowHalf w X) casts_half)) Q)
        -∗ wp frame (wpE (defs₀ (F := F)) 𝒱₀ (c : Thread nD τ) none) Set.univ
            (.op (.load M (Rect.unit (s := S3x2048x1024) off S1x1024x1024.size inb).toLoadRect hl) kk) Q) := by
  subst hM ho
  rw [slot_owns c d h sh X (Rect.unit (s := S3x2048x1024) ![h.val, 1024 * w.val, 0] S1x1024x1024.size inb)]
  iintro ⟨%f, %hf, H⟩ Hk
  have hv : (bufR d).view.readAt (Elt F) (Rect.unit (s := S3x2048x1024) ![h.val, 1024 * w.val, 0] S1x1024x1024.size inb).toLoadRect f
      = shapeCast S1x1024x1024 (rowHalf w X) casts_half := by
    refine (half_cast _ shapeCasts_S1x1024x1024_S1024x1024 casts_half).symm.trans ?_
    refine congrArg (fun Y => shapeCast S1x1024x1024 Y casts_half) ?_
    rw [← hf]
    funext j
    show (bufR d).view.read (Elt F) f ((Rect.unit (s := S3x2048x1024) ![h.val, 1024 * w.val, 0] S1x1024x1024.size inb).emb (Shape.reshapeEquiv shapeCasts_S1x1024x1024_S1024x1024 j))
      = (bufR d).view.read (Elt F) f ((slotR h).emb (Shape.reshapeEquiv shapeCasts_S1x2048x1024_S2048x1024 ((halfR w).emb j)))
    rw [half_emb]
  rw [← hv]
  have hsub : ((bufR d).view.slice (Rect.unit (s := S3x2048x1024) ![h.val, 1024 * w.val, 0] S1x1024x1024.size inb)).set ⊆ ((bufR d).view.slice (slotR h)).set := by
    intro i hi
    obtain ⟨x, -, rfl⟩ := Finset.mem_map.mp hi
    obtain ⟨j, rfl⟩ := (Shape.reshapeEquiv shapeCasts_S1x1024x1024_S1024x1024).surjective x
    show (bufR d).view.emb ((Rect.unit (s := S3x2048x1024) ![h.val, 1024 * w.val, 0] S1x1024x1024.size inb).emb (Shape.reshapeEquiv shapeCasts_S1x1024x1024_S1024x1024 j)) ∈ _
    rw [half_emb]
    exact Finset.mem_map_of_mem ((bufR d).view.slice (slotR h)).emb (Finset.mem_univ (Shape.reshapeEquiv shapeCasts_S1x2048x1024_S2048x1024 ((halfR w).emb j)))
  iapply (wp_load_rect 𝒱₀ (c : Thread nD τ) none Set.univ (m := bufR d)
    (r := Rect.unit (s := S3x2048x1024) ![h.val, 1024 * w.val, 0] S1x1024x1024.size inb) (S := ((bufR d).view.slice (slotR h)).set) (f := f) hsub) $$ H
  iintro H
  iapply Hk
  iexists f
  isplitr; · ipureintro; exact hf
  iexact H

/-! ## Whole buffers, and loads whose value is not used -/

/-- Load the buffer of the chunk to be added. -/
theorem wp_loadS (c : Dev nD) (d : Bool) (sh : PosShare TreeShare) (X : Vec F S2048x1024 .bf16)
    {M : Memref sig .tc .vmem S2048x1024 .bf16} (hM : M = bufS d) {off : Fin 2 → ℕ} {inb : ∀ a, off a + S2048x1024.size a ≤ S2048x1024.size a}
    (ho : off = fun _ => 0) {hl : M.view.LoadsAt (Rect.unit (s := S2048x1024) off S2048x1024.size inb).toLoadRect}
    {kk : Vec F S2048x1024 .bf16 → Prog (TpuEff nD τ sig (Elt F) Λ₀ .tc) α} :
    owns (c : Thread nD τ) (bufS d) sh X
      ⊢ iprop((owns (c : Thread nD τ) (bufS d) sh X
          -∗ wp frame (wpE (defs₀ (F := F)) 𝒱₀ (c : Thread nD τ) none) Set.univ (kk X) Q)
        -∗ wp frame (wpE (defs₀ (F := F)) 𝒱₀ (c : Thread nD τ) none) Set.univ
            (.op (.load M (Rect.unit (s := S2048x1024) off S2048x1024.size inb).toLoadRect hl) kk) Q) := by
  subst hM ho
  unfold owns
  iintro ⟨%f, %hf, H⟩ Hk
  iapply (wp_load 𝒱₀ (c : Thread nD τ) none Set.univ (m := bufS d) (S := (bufS d).view.set) (f := f) (View.setOn_subset_set _ _)) $$ H
  have hv : (bufS d).view.readAt (Elt F) (Rect.unit (s := S2048x1024) (fun _ => 0) S2048x1024.size inb).toLoadRect f = X := by
    rw [← hf]
    match d, f with
    | false, f => exact Memref.readAt_unit_zero (Elt F) cc0_scratch0 rfl inb f
    | true, f => exact Memref.readAt_unit_zero (Elt F) cc0_scratch1 rfl inb f
  rw [hv]
  iintro H
  iapply Hk
  iexists f
  isplitr; · ipureintro; exact hf
  iexact H

/-- A load whose value is not used. -/
theorem wp_loadAny (c : Dev nD) {s : Shape} {e : EltTy} {M : Memref sig .tc .vmem s e} (sh : PosShare TreeShare) (X : s.Idx → Elt F e)
    {r : LoadRect s} {hl : M.view.LoadsAt r} {kk : (r.shape.Idx → Elt F e) → Prog (TpuEff nD τ sig (Elt F) Λ₀ .tc) α} :
    owns (c : Thread nD τ) M sh X
      ⊢ iprop((∀ v, owns (c : Thread nD τ) M sh X
          -∗ wp frame (wpE (defs₀ (F := F)) 𝒱₀ (c : Thread nD τ) none) Set.univ (kk v) Q)
        -∗ wp frame (wpE (defs₀ (F := F)) 𝒱₀ (c : Thread nD τ) none) Set.univ (.op (.load M r hl) kk) Q) := by
  unfold owns
  iintro ⟨%f, %hf, H⟩ Hk
  iapply (wp_load 𝒱₀ (c : Thread nD τ) none Set.univ (m := M) (S := M.view.set) (f := f) (View.setOn_subset_set _ _)) $$ H
  iintro H
  iapply Hk
  iexists f
  isplitr; · ipureintro; exact hf
  iexact H

/-- Load a quarter of the weight. -/
theorem wp_loadW (c : Dev nD) (i j : Fin 2) {M : Memref sig .tc .vmem S2048x2048 .bf16} (hM : M = wM)
    {off : Fin 2 → ℕ} {inb : ∀ a, off a + S1024x1024.size a ≤ S2048x2048.size a}
    (ho : off = ![1024 * i.val, 1024 * j.val]) {hl : M.view.LoadsAt (Rect.unit (s := S2048x2048) off S1024x1024.size inb).toLoadRect}
    {kk : Vec F S1024x1024 .bf16 → Prog (TpuEff nD τ sig (Elt F) Λ₀ .tc) α} :
    owns (c : Thread nD τ) wM fullShare (wS m c)
      ⊢ iprop((owns (c : Thread nD τ) wM fullShare (wS m c)
          -∗ wp frame (wpE (defs₀ (F := F)) 𝒱₀ (c : Thread nD τ) none) Set.univ (kk (wQ m c i j)) Q)
        -∗ wp frame (wpE (defs₀ (F := F)) 𝒱₀ (c : Thread nD τ) none) Set.univ
            (.op (.load M (Rect.unit (s := S2048x2048) off S1024x1024.size inb).toLoadRect hl) kk) Q) := by
  subst hM ho
  unfold owns
  iintro ⟨%f, %hf, H⟩ Hk
  have hf' : f = wS m c := hf
  subst hf'
  iapply (wp_load 𝒱₀ (c : Thread nD τ) none Set.univ (m := wM) (S := wM.view.set) (f := wS m c) (View.setOn_subset_set _ _)) $$ H
  iintro H
  iapply Hk
  iexists (wS m c)
  isplitr; · ipureintro; rfl
  iexact H

/-! ## The two halves of the product -/

omit [FloatOps F] in
/-- The row of an entry of half `w`. -/
theorem half_row (w : Fin 2) (j : S1024x1024.Idx) : ((halfR w).emb j 0).val = 1024 * w.val + (j 0).val := by
  simp [Rect.emb, Rect.unit]
omit [FloatOps F] in
/-- The column of an entry of half `w`. -/
theorem half_col (w : Fin 2) (j : S1024x1024.Idx) : ((halfR w).emb j 1).val = (j 1).val := by
  simp [Rect.emb, Rect.unit]
omit [FloatOps F] in
/-- Each entry of a chunk lies in one of the halves. -/
theorem exists_half (i : S2048x1024.Idx) : ∃ (w : Fin 2) (j : S1024x1024.Idx), (halfR w).emb j = i := by
  have h1 : (i 1).val < 1024 := (i 1).isLt
  have h0 : (i 0).val < 2048 := (i 0).isLt
  by_cases hi : (i 0).val < 1024
  · refine ⟨0, ix2 ⟨(i 0).val, hi⟩ ⟨(i 1).val, h1⟩, ?_⟩
    funext a; apply Fin.ext; fin_cases a
    · exact (half_row 0 _).trans (by simp)
    · exact half_col 0 _
  · refine ⟨1, ix2 ⟨(i 0).val - 1024, by omega⟩ ⟨(i 1).val, h1⟩, ?_⟩
    funext a; apply Fin.ext; fin_cases a
    · refine (half_row 1 _).trans ?_
      show 1024 * 1 + ((i 0).val - 1024) = (i 0).val
      omega
    · exact half_col 1 _

omit [FloatOps F] in
/-- A chunk is known by its two row halves. -/
theorem ext_halves {X Y : Vec F S2048x1024 .bf16} (h : ∀ w, rowHalf w X = rowHalf w Y) : X = Y := by
  funext i
  obtain ⟨w, j, rfl⟩ := exists_half i
  exact congrFun (h w) j

/-- The row halves of the device's half product. -/
theorem rowHalf_outv (w : Fin 2) (d : Bool) (c : Dev nD) : rowHalf w (outv m d c) = outQ m c w d := by
  funext j
  have hj : (j 0).val < 1024 := (j 0).isLt
  have e0 := half_row w j
  have e1 := half_col w j
  unfold rowHalf outv
  match w, e0, e1 with
  | 0, e0, e1 =>
    rw [dif_pos (show ((halfR 0).emb j 0).val < 1024 by rw [e0]; simpa using hj)]
    refine congrArg (outQ m c 0 d) ?_
    funext a; apply Fin.ext; fin_cases a
    · exact e0.trans (by simp)
    · exact e1
  | 1, e0, e1 =>
    rw [dif_neg (show ¬ ((halfR 1).emb j 0).val < 1024 by rw [e0]; simp)]
    refine congrArg (outQ m c 1 d) ?_
    funext a; apply Fin.ext; fin_cases a
    · show ((halfR 1).emb j 0).val - 1024 = _
      rw [e0]; simp
    · exact e1

omit [FloatOps F] in
/-- The rows of one half are none of the other's. -/
theorem half_disj (w w' : Fin 2) (h : w ≠ w') (j : S1024x1024.Idx) : (halfR w').emb j ∉ (Finset.univ : Finset S1024x1024.Idx).map (halfR w).emb := by
  intro hm
  obtain ⟨x, -, hx⟩ := Finset.mem_map.mp hm
  have e : ((halfR w).emb x 0).val = ((halfR w').emb j 0).val := by rw [hx]
  have a1 := half_row w x
  have a2 := half_row w' j
  have b1 : (x 0).val < 1024 := (x 0).isLt
  have b2 : (j 0).val < 1024 := (j 0).isLt
  have : w.val ≠ w'.val := fun e => h (Fin.ext e)
  omega

/-- Store row half `w` of the product's buffer: that half is what is stored, the other is as it was. -/
theorem wp_storeHalf (c : Dev nD) (d : Bool) (w : Fin 2) (X : Vec F S2048x1024 .bf16) (v : Vec F S1024x1024 .bf16)
    {M : Memref sig .tc .vmem S2048x1024 .bf16} (hM : M = bufO d) {off : Fin 2 → ℕ} {inb : ∀ a, off a + S1024x1024.size a ≤ S2048x1024.size a}
    (ho : off = ![1024 * w.val, 0]) {hx : (M.access (Rect.unit (s := S2048x1024) off S1024x1024.size inb)).Stores Finset.univ}
    {hm : (Finset.univ : Finset (Rect.unit (s := S2048x1024) off S1024x1024.size inb).shape.Idx) = Finset.univ
      ∨ ∀ a, (Rect.unit (s := S2048x1024) off S1024x1024.size inb).stride a = 1}
    {kk : PUnit → Prog (TpuEff nD τ sig (Elt F) Λ₀ .tc) α} :
    owns (c : Thread nD τ) (bufO d) fullShare X
      ⊢ iprop((∀ X' : Vec F S2048x1024 .bf16, ⌜rowHalf w X' = v ∧ ∀ w', w ≠ w' → rowHalf w' X' = rowHalf w' X⌝
            -∗ owns (c : Thread nD τ) (bufO d) fullShare X'
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.store M (Rect.unit (s := S2048x1024) off S1024x1024.size inb) v Finset.univ hx hm) kk) Q) := by
  subst hM ho
  unfold owns
  iintro ⟨%f, %hf, H⟩ Hk
  iapply (wp_store 𝒱₀ (c : Thread nD τ) none Set.univ (m := bufO d) (r := halfR w) (S := (bufO d).view.set)
    (f := f) (View.set_slice_subset _ _)) $$ H
  iintro H
  iapply Hk $$ %((bufO d).view.read (Elt F) (((bufO d).view.slice (halfR w)).write (Elt F) f v Finset.univ)) []
  · ipureintro
    constructor
    · funext j; exact View.read_slice_write_emb (halfR w) f v (Finset.mem_univ j)
    · intro w' hw
      funext j
      rw [← hf]
      exact View.read_slice_write_of_not_mem (halfR w) f v Finset.univ (half_disj w w' hw j)
  · iexists (((bufO d).view.slice (halfR w)).write (Elt F) f v Finset.univ)
    isplitr; · ipureintro; rfl
    iexact H

end Cert.Ring
-- ==== Proof.Rules.lean ====
/-
# The rules of the body's steps

One rule for each kind of step of the kernel's body, stated over the schedule's streams, hops and chunks.
-/
module

public import proofs.«01_k».proof.Proof.Loads

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A chunk-sized buffer of device `c` at any contents. -/
def anyAt (c : Dev nD) {sp : Space} (M : Memref sig .tc sp S2048x1024 .bf16) : sProp 𝕄 :=
  iprop(∃ Y : Vec F S2048x1024 .bf16, owns (c : Thread nD τ) M fullShare Y)
/-- What device `c` still owes when the last `n` of its payments are to come, whatever it has waited on. -/
def Owes (c : Dev nD) (n : ℕ) : sProp 𝕄 := iprop(∃ W, owes (c : Thread nD τ) (Ow c n) W)
/-- The duty of round `r` of cell `k` of device `c`. -/
abbrev tok (c : Dev nD) (k : Fin 37) (r : ℕ) : sProp 𝕄 := dutyTok ER (cell c k) r false
/-- The credit of one chunk's transfer on cell `k` of device `c`. -/
abbrev cr (c : Dev nD) (k : Fin 37) : sProp 𝕄 := cred (tallyAt (cell c k) () N)
/-- The block of the argument that chunk `i` of stream `d` is loaded from. -/
abbrev tP (c : Dev nD) (d : Bool) (i : ℕ) : sProp 𝕄 :=
  owns (c : Thread nD τ) (blk tM (ch d i c) (col d)) fullShare (tBlk m c (ch d i c) d)
/-- A program of device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- A named buffer is a buffer at any contents. -/
theorem any_intro (c : Dev nD) {sp : Space} (M : Memref sig .tc sp S2048x1024 .bf16) (X : Vec F S2048x1024 .bf16) :
    owns (c : Thread nD τ) M fullShare X ⊢ anyAt (F := F) c M := by
  unfold anyAt; iintro H; iexists X; iexact H

omit [FloatOps F] in
/-- A buffer held whole is its two halves. -/
theorem owns_split (c : Dev nD) {sp : Space} (M : Memref sig .tc sp S2048x1024 .bf16) (X : Vec F S2048x1024 .bf16) :
    (owns (c : Thread nD τ) M fullShare X : sProp 𝕄) ⊢ iprop(owns (c : Thread nD τ) M fullShare.left X ∗ owns (c : Thread nD τ) M fullShare.right X) := by
  unfold owns
  iintro ⟨%f, %hf, H⟩
  ihave H' := (pointsTo_share (PosShare.mem_left_op_right fullShare)).1 $$ H
  icases H' with ⟨HL, HR⟩
  isplitl [HL]
  · iexists f; isplitr; · ipureintro; exact hf
    iexact HL
  · iexists f; isplitr; · ipureintro; exact hf
    iexact HR

variable {α : Type} {Q : α → sProp (MT nD τ sig Unit (Elt F) ℕ UU ℕ)} {kk : PUnit → Prog (TpuEff nD τ sig (Elt F) Λ₀ .tc) α}

/-! ## Transfers -/

/-- Start hop `q` of stream `d`. -/
theorem go_hop (K : Dev nD × Fin 37 → ℕ) (c : Dev nD) (d : Bool) (q : Fin 6) (n n' : ℕ) (hn' : n' = n + 1)
    (ho : owed c n = cell (fwd d c) (kR d q)) (hn : owedN n = N)
    {c' : Dev nD} (hc : c' = fwd d c) {qS qR : DmaSem sig} (hqS : qS = ⟨(kS d q).val, (kS d q).isLt⟩) (hqR : qR = ⟨(kR d q).val, (kR d q).isLt⟩)
    {src dst : Memref sig .tc .vmem S2048x1024 .bf16} (hsr : src = srcM d q) (hds : dst = dstM d q)
    {hsc : (dst : Memref sig (Dev.tc c' : Thread nD τ).2.kind .vmem S2048x1024 .bf16).view.ref.isScScratch = false}
    {hsrc : src.view.WordExact} {hdst : dst.view.WordExact}
    {hsem : DmaTarget.Typed .vmem (.dma qR) (.remote (Dev.tc c' : Thread nD τ) dst (.dma qS) hsc)}
    {P D E : sProp 𝕄} (hP : sendPay m d q c = P) (hD : anyAt (fwd d c) (dstM d q) = D) (hE : extra (F := F) d q c = E) {c'' : Dev nD} (hc'' : c'' = fwd d c) :
    iprop(records m K ∗ tok c (kS d q) 0 ∗ tok c'' (kR d q) 0 ∗ P ∗ D ∗ E ∗ Owes c n')
      ⊢ iprop(((cr c (kS d q) ∗ Owes c n) -∗ run c (kk ⟨⟩) Q)
        -∗ run c (.op (.enqueueDma src (.remote (Dev.tc c' : Thread nD τ) dst (.dma qS) hsc) (.dma qR) hsrc hdst hsem) kk) Q) := by
  subst hn' hP hD hE hc''
  unfold Owes anyAt
  iintro ⟨#HR, HtS, HtR, HP, HD, HE, ⟨%W, HO⟩⟩ Hk
  iapply (wp_hop m K c d q n ho hn hc hqS hqR hsr hds W) $$ [HtS HtR HP HD HE HO]
  · isplitr; · iexact HR
    isplitl [HtS]; · iexact HtS
    isplitl [HtR]; · iexact HtR
    isplitl [HP]; · iexact HP
    isplitl [HD]; · iexact HD
    isplitl [HE]; · iexact HE
    iexact HO
  iintro ⟨Hc, HO⟩
  iapply Hk
  isplitl [Hc]; · iexact Hc
  iexists W; iexact HO

/-- Wait for a transfer on cell `k` in round `r`. -/
theorem go_wait (K : Dev nD × Fin 37 → ℕ) (c : Dev nD) (k : Fin 37) (hk : k ≠ 0) (r r' n : ℕ) (hr : r' = r + 1) (hd : dutiesOf k r = {false}) (hn : n ≤ 14)
    (hlv : ∀ i, i < n → lvS (sem k) < lvOf i)
    {q : DmaSem sig} (hq : q = ⟨k.val, k.isLt⟩) {sp sp' : Space} {s : Shape} {e : EltTy} {src : Memref sig .tc sp s e} {dst : Memref sig .tc sp' s e}
    {hsrc : src.view.WordExact} {hdst : dst.view.WordExact} (hN : dst.view.dmaCredit = N) (P : sProp 𝕄) (hP : pay m c k r false = P) :
    iprop(records m K ∗ cr c k ∗ Owes c n ∗ At c k r)
      ⊢ iprop(((Owes c n ∗ At c k r' ∗ P) -∗ run c (kk ⟨⟩) Q)
        -∗ run c (.op (.waitDma2 q src dst hsrc hdst) kk) Q) := by
  subst hr
  unfold Owes
  iintro ⟨#HR, Hc, ⟨%W, HO⟩, Ha⟩ Hk
  iapply (wp_wait m K c k hk r n hd hn hlv hq hN W P hP) $$ [Hc HO Ha]
  · isplitr; · iexact HR
    isplitl [Hc]; · iexact Hc
    isplitl [HO]; · iexact HO
    iexact Ha
  iintro ⟨HO, Ha, HP⟩
  iapply Hk
  isplitl [HO]; · iexists _; iexact HO
  isplitl [Ha]; · iexact Ha
  iexact HP

/-- Wait for the send of hop `q` of stream `d`: its source is back. -/
theorem go_waitSend (K : Dev nD × Fin 37 → ℕ) (c : Dev nD) (d : Bool) (q : Fin 6) (n : ℕ) (hn : n ≤ 14)
    (hlv : ∀ i, i < n → lvS (sem (kS d q)) < lvOf i)
    {s : DmaSem sig} (hq : s = ⟨(kS d q).val, (kS d q).isLt⟩) {sp sp' : Space} {src : Memref sig .tc sp S2048x1024 .bf16} {dst : Memref sig .tc sp' S2048x1024 .bf16}
    {hsrc : src.view.WordExact} {hdst : dst.view.WordExact} (hN : dst.view.dmaCredit = N) {P : sProp 𝕄} (hP : sendPay m d q c = P) :
    iprop(records m K ∗ cr c (kS d q) ∗ Owes c n ∗ At c (kS d q) 0)
      ⊢ iprop(((Owes c n ∗ At c (kS d q) 1 ∗ P) -∗ run c (kk ⟨⟩) Q)
        -∗ run c (.op (.waitDma2 s src dst hsrc hdst) kk) Q) :=
  go_wait m K c (kS d q) (kS_ne d q) 0 1 n rfl (dut_send d q) hn hlv hq hN P ((pay_send m c d q).trans hP)

/-- Wait for the receive of hop `q` of stream `d`: the chunk has landed, and the slots handed over come with it. -/
theorem go_waitRecv (K : Dev nD × Fin 37 → ℕ) (c : Dev nD) (d : Bool) (q : Fin 6) (n : ℕ) (hn : n ≤ 14)
    (hlv : ∀ i, i < n → lvS (sem (kR d q)) < lvOf i)
    {s : DmaSem sig} (hq : s = ⟨(kR d q).val, (kR d q).isLt⟩) {sp sp' : Space} {src : Memref sig .tc sp S2048x1024 .bf16} {dst : Memref sig .tc sp' S2048x1024 .bf16}
    {hsrc : src.view.WordExact} {hdst : dst.view.WordExact} (hN : dst.view.dmaCredit = N) {P E : sProp 𝕄} (hP : recvPay m d q c = iprop(P ∗ E)) :
    iprop(records m K ∗ cr c (kR d q) ∗ Owes c n ∗ At c (kR d q) 0)
      ⊢ iprop(((Owes c n ∗ At c (kR d q) 1 ∗ P ∗ E) -∗ run c (kk ⟨⟩) Q)
        -∗ run c (.op (.waitDma2 s src dst hsrc hdst) kk) Q) :=
  go_wait m K c (kR d q) (kR_ne d q) 0 1 n rfl (dut_recv d q) hn hlv hq hN iprop(P ∗ E) ((pay_recv m c d q).trans hP)

/-- Start the load of chunk `i` of stream `d`. -/
theorem go_load (K : Dev nD × Fin 37 → ℕ) (c : Dev nD) (d : Bool) (i : Fin 4) {k : Fin 37} (hk : kL d i = k) {r : ℕ} (hr : rL i = r)
    {q : DmaSem sig} (hq : q = ⟨k.val, k.isLt⟩) {src : Memref sig .tc .hbm S2048x1024 .bf16} {dst : Memref sig .tc .vmem S2048x1024 .bf16}
    (hsr : src = blk tM (ch d i.val c) (col d)) (hds : dst = dstL d i)
    {hsrc : src.view.WordExact} {hdst : dst.view.WordExact} {hsem : (DmaTarget.here dst : DmaTarget nD τ sig (.tc : Proc τ) .vmem S2048x1024 .bf16).Typed .hbm (SemLoc.dma q)}
    {T D : sProp 𝕄} (hT : tP m c d i.val = T) (hD : anyAt (F := F) c (dstL d i) = D) :
    iprop(records m K ∗ At c k r ∗ tok c k r ∗ T ∗ D)
      ⊢ iprop(((cr c k ∗ At c k r) -∗ run c (kk ⟨⟩) Q)
        -∗ run c (.op (.enqueueDma src (.here dst) (.dma q) hsrc hdst hsem) kk) Q) := by
  subst hk hr hT hD hsr hds
  unfold anyAt At
  iintro ⟨#HR, ⟨Ha, #Hr⟩, Ht, HT, ⟨%Y, HD⟩⟩ Hk
  iapply (wp_copy m K c (kL d i) (kL_ne d i) (rL i) (dut_load d i) hq (by cases d <;> fin_cases i <;> rfl) fullShare (tBlk m c (ch d i.val c) d) Y
    (Entails.of_eq (pay_load m c d i).symm)) $$ [Ht HT HD]
  · isplitr; · iexact HR
    isplitr; · iexact Hr
    isplitl [Ht]; · iexact Ht
    isplitl [HT]; · iexact HT
    iexact HD
  iintro Hc
  iapply Hk
  isplitl [Hc]; · iexact Hc
  isplitl [Ha]; · iexact Ha
  iexact Hr

/-- Wait for the load of chunk `i` of stream `d`. -/
theorem go_waitLoad (K : Dev nD × Fin 37 → ℕ) (c : Dev nD) (d : Bool) (i : Fin 4) {k : Fin 37} (hk : kL d i = k) {r r' : ℕ} (hr : rL i = r) (hr' : r' = r + 1)
    (n : ℕ) (hn : n ≤ 14) (hlv : ∀ i, i < n → lvS (sem k) < lvOf i)
    {q : DmaSem sig} (hq : q = ⟨k.val, k.isLt⟩) {sp sp' : Space} {src : Memref sig .tc sp S2048x1024 .bf16} {dst : Memref sig .tc sp' S2048x1024 .bf16}
    {hsrc : src.view.WordExact} {hdst : dst.view.WordExact} (hN : dst.view.dmaCredit = N) {P T : sProp 𝕄} (hP : loadPay m d i c = iprop(P ∗ T)) :
    iprop(records m K ∗ cr c k ∗ Owes c n ∗ At c k r)
      ⊢ iprop(((Owes c n ∗ At c k r' ∗ P ∗ T) -∗ run c (kk ⟨⟩) Q)
        -∗ run c (.op (.waitDma2 q src dst hsrc hdst) kk) Q) := by
  subst hk hr
  exact go_wait m K c (kL d i) (kL_ne d i) (rL i) r' n hr' (dut_load d i) hn hlv hq hN iprop(P ∗ T) ((pay_load m c d i).trans hP)

/-- Start the store of block `i` of stream `d` of the result. -/
theorem go_store (K : Dev nD × Fin 37 → ℕ) (c : Dev nD) (d : Bool) (i : Fin 4)
    {q : DmaSem sig} (hq : q = ⟨(kO d i).val, (kO d i).isLt⟩) {src : Memref sig .tc .vmem S2048x1024 .bf16} {dst : Memref sig .tc .hbm S2048x1024 .bf16}
    (hsr : src = srcO d i) (hds : dst = blk vM ((bwd d)^[i.val] c) (col d))
    {hsrc : src.view.WordExact} {hdst : dst.view.WordExact} {hsem : (DmaTarget.here dst : DmaTarget nD τ sig (.tc : Proc τ) .hbm S2048x1024 .bf16).Typed .vmem (SemLoc.dma q)}
    {P D : sProp 𝕄} (hP : owns (c : Thread nD τ) (srcO d i) fullShare.right (outv m d ((bwd d)^[i.val] c)) = P)
    (hD : anyAt (F := F) c (blk vM ((bwd d)^[i.val] c) (col d)) = D) :
    iprop(records m K ∗ tok c (kO d i) 0 ∗ P ∗ D)
      ⊢ iprop((cr c (kO d i) -∗ run c (kk ⟨⟩) Q)
        -∗ run c (.op (.enqueueDma src (.here dst) (.dma q) hsrc hdst hsem) kk) Q) := by
  subst hP hD hsr hds
  unfold anyAt
  iintro ⟨#HR, Ht, HP, ⟨%Y, HD⟩⟩ Hk
  ihave #Hr := (rec_reached m K c (kO d i)) $$ HR
  iapply (wp_copy m K c (kO d i) (kO_ne d i) 0 (dut_store d i) hq (src := srcO d i) (dst := blk vM ((bwd d)^[i.val] c) (col d)) rfl fullShare.right (outv m d ((bwd d)^[i.val] c)) Y
    (Entails.of_eq (pay_store m c d i).symm)) $$ [Ht HP HD]
  · isplitr; · iexact HR
    isplitr; · iexact Hr
    isplitl [Ht]; · iexact Ht
    isplitl [HP]; · iexact HP
    iexact HD
  iexact Hk

/-- Wait for the store of block `i` of stream `d` of the result. -/
theorem go_waitStore (K : Dev nD × Fin 37 → ℕ) (c : Dev nD) (d : Bool) (i : Fin 4) (n : ℕ) (hn : n ≤ 14)
    (hlv : ∀ j, j < n → lvS (sem (kO d i)) < lvOf j)
    {q : DmaSem sig} (hq : q = ⟨(kO d i).val, (kO d i).isLt⟩) {sp sp' : Space} {src : Memref sig .tc sp S2048x1024 .bf16} {dst : Memref sig .tc sp' S2048x1024 .bf16}
    {hsrc : src.view.WordExact} {hdst : dst.view.WordExact} (hN : dst.view.dmaCredit = N) {P T : sProp 𝕄} (hP : storePay m d i c = iprop(P ∗ T)) :
    iprop(records m K ∗ cr c (kO d i) ∗ Owes c n ∗ At c (kO d i) 0)
      ⊢ iprop(((Owes c n ∗ At c (kO d i) 1 ∗ P ∗ T) -∗ run c (kk ⟨⟩) Q)
        -∗ run c (.op (.waitDma2 q src dst hsrc hdst) kk) Q) :=
  go_wait m K c (kO d i) (kO_ne d i) 0 1 n rfl (dut_store d i) hn hlv hq hN iprop(P ∗ T) ((pay_store m c d i).trans hP)

/-! ## The barrier -/

/-- Signal the barrier of the device stream `d` comes from. -/
theorem go_signal (K : Dev nD × Fin 37 → ℕ) (c : Dev nD) (d : Bool) (n n' : ℕ) (hn' : n' = n + 1) (ho : owed c n = cell (bwd d c) 0) (hn : owedN n = 1)
    {c' : Dev nD} (hc : c' = bwd d c) {c'' : Dev nD} (hc'' : c'' = bwd d c) {q : Sem sig} (hq : q = (0 : Sem sig)) :
    iprop(records m K ∗ Owes c n' ∗ dutyTok ER (cell c'' 0) 0 d ∗ slots (F := F) d c)
      ⊢ iprop((Owes c n -∗ run c (kk ⟨⟩) Q)
        -∗ run c (.op (.semSignal (c' : Thread nD τ) q 1) kk) Q) := by
  subst hn' hc''
  unfold Owes
  iintro ⟨#HR, ⟨%W, HO⟩, Ht, Hs⟩ Hk
  iapply (wp_barSignal m K c d n ho hn hc hq W) $$ [HO Ht Hs]
  · isplitr; · iexact HR
    isplitl [HO]; · iexact HO
    isplitl [Ht]; · iexact Ht
    iexact Hs
  iintro HO
  iapply Hk
  iexists W; iexact HO

/-- Wait at the barrier. -/
theorem go_barrier (K : Dev nD × Fin 37 → ℕ) (c : Dev nD) {q : Sem sig} (hq : q = (0 : Sem sig)) :
    iprop(records m K ∗ cred (tallyAt (cell c 0) () 2) ∗ Owes c 12 ∗ At c 0 0)
      ⊢ iprop(((Owes c 12 ∗ At c 0 1 ∗ slots (F := F) false (nxt c) ∗ slots (F := F) true (prv c)) -∗ run c (kk ⟨⟩) Q)
        -∗ run c (.op (.semWait q 2) kk) Q) := by
  unfold Owes
  iintro ⟨#HR, Hc, ⟨%W, HO⟩, Ha⟩ Hk
  iapply (wp_barWait m K c hq W) $$ [Hc HO Ha]
  · isplitr; · iexact HR
    isplitl [Hc]; · iexact Hc
    isplitl [HO]; · iexact HO
    iexact Ha
  iintro ⟨HO, Hr⟩
  iapply Hk
  isplitl [HO]; · iexists _; iexact HO
  iexact Hr

/-! ## The chunk's arithmetic -/

/-- Store the running sum of stage `i + 1` over that of stage `i` that has landed in slot `h`. -/
theorem go_storeAcc (c : Dev nD) (d : Bool) (h : Fin 3) (i : ℕ) {c' : Dev nD} (hc' : c' = bwd d c) (w : Vec F S1x2048x1024 .bf16)
    (hw : w = k0_pay1 (shapeCast S1x2048x1024 (acc m d i c') shapeCasts_S2048x1024_S1x2048x1024) (tBlk m c (ch d (i + 1) c) d))
    {M : Memref sig .tc .vmem S3x2048x1024 .bf16} (hM : M = bufR d) {off : Fin 3 → ℕ} {inb : ∀ a, off a + S1x2048x1024.size a ≤ S3x2048x1024.size a}
    (ho : off = ![h.val, 0, 0]) {hx : (M.access (Rect.unit (s := S3x2048x1024) off S1x2048x1024.size inb)).Stores Finset.univ}
    {hm : (Finset.univ : Finset (Rect.unit (s := S3x2048x1024) off S1x2048x1024.size inb).shape.Idx) = Finset.univ
      ∨ ∀ a, (Rect.unit (s := S3x2048x1024) off S1x2048x1024.size inb).stride a = 1} :
    owns (c : Thread nD τ) (slot d h) fullShare (acc m d i c')
      ⊢ iprop((owns (c : Thread nD τ) (slot d h) fullShare (acc m d (i + 1) c) -∗ run c (kk ⟨⟩) Q)
        -∗ run c (.op (.store M (Rect.unit (s := S3x2048x1024) off S1x2048x1024.size inb) w Finset.univ hx hm) kk) Q) := by
  have e := acc_sum (F := F) (acc m d i c') (tBlk m c (ch d (i + 1) c) d)
  rw [← hw] at e
  have hacc : acc m d (i + 1) c = (addf (acc m d i c') (tBlk m c (ch d (i + 1) c) d) : Vec F S2048x1024 .bf16) := by rw [hc']; rfl
  rw [hacc, ← e]
  exact wp_storeSlot c d h (acc m d i c') w hM ho

/-- The product's buffer with its first row half stored. -/
def halfDone (c : Dev nD) (d : Bool) : sProp 𝕄 :=
  iprop(∃ X : Vec F S2048x1024 .bf16, ⌜rowHalf 0 X = outQ m c 0 d⌝ ∗ owns (c : Thread nD τ) (bufO d) fullShare X)

/-- A load of that buffer whose value is not used. -/
theorem go_loadDone (c : Dev nD) (d : Bool) {M : Memref sig .tc .vmem S2048x1024 .bf16} (hM : M = bufO d) {r : LoadRect S2048x1024}
    {hl : M.view.LoadsAt r} {k : (r.shape.Idx → Elt F .bf16) → Prog (TpuEff nD τ sig (Elt F) Λ₀ .tc) α} :
    halfDone m c d
      ⊢ iprop((∀ v, halfDone m c d -∗ run c (k v) Q) -∗ run c (.op (.load M r hl) k) Q) := by
  subst hM
  unfold halfDone
  iintro ⟨%X, %hX, H⟩ Hk
  iapply (wp_loadAny c fullShare X) $$ H
  iintro %v H
  iapply Hk
  iexists X
  isplitr; · ipureintro; exact hX
  iexact H

/-- A load of a chunk-sized buffer whose value is not used. -/
theorem go_loadO (c : Dev nD) (d : Bool) (X : Vec F S2048x1024 .bf16) {M : Memref sig .tc .vmem S2048x1024 .bf16} (hM : M = bufO d) {r : LoadRect S2048x1024}
    {hl : M.view.LoadsAt r} {k : (r.shape.Idx → Elt F .bf16) → Prog (TpuEff nD τ sig (Elt F) Λ₀ .tc) α} :
    owns (c : Thread nD τ) (bufO d) fullShare X
      ⊢ iprop((∀ v, owns (c : Thread nD τ) (bufO d) fullShare X -∗ run c (k v) Q) -∗ run c (.op (.load M r hl) k) Q) := by
  subst hM
  exact wp_loadAny c fullShare X

/-- Store the first row half of the product. -/
theorem go_storeFirst (c : Dev nD) (d : Bool) (X : Vec F S2048x1024 .bf16) (v : Vec F S1024x1024 .bf16) (hv : v = outQ m c 0 d)
    {M : Memref sig .tc .vmem S2048x1024 .bf16} (hM : M = bufO d) {off : Fin 2 → ℕ} {inb : ∀ a, off a + S1024x1024.size a ≤ S2048x1024.size a}
    (ho : off = ![0, 0]) {hx : (M.access (Rect.unit (s := S2048x1024) off S1024x1024.size inb)).Stores Finset.univ}
    {hm : (Finset.univ : Finset (Rect.unit (s := S2048x1024) off S1024x1024.size inb).shape.Idx) = Finset.univ
      ∨ ∀ a, (Rect.unit (s := S2048x1024) off S1024x1024.size inb).stride a = 1} :
    owns (c : Thread nD τ) (bufO d) fullShare X
      ⊢ iprop((halfDone m c d -∗ run c (kk ⟨⟩) Q)
        -∗ run c (.op (.store M (Rect.unit (s := S2048x1024) off S1024x1024.size inb) v Finset.univ hx hm) kk) Q) := by
  unfold halfDone
  iintro H Hk
  iapply (wp_storeHalf c d 0 X v hM (ho.trans rfl)) $$ H
  iintro %X' %hX' H
  iapply Hk
  iexists X'
  isplitr; · ipureintro; exact hX'.1.trans hv
  iexact H

/-- Store the second row half of the product: the buffer holds the device's half product. -/
theorem go_storeSecond (c : Dev nD) (d : Bool) (v : Vec F S1024x1024 .bf16) (hv : v = outQ m c 1 d)
    {M : Memref sig .tc .vmem S2048x1024 .bf16} (hM : M = bufO d) {off : Fin 2 → ℕ} {inb : ∀ a, off a + S1024x1024.size a ≤ S2048x1024.size a}
    (ho : off = ![1024, 0]) {hx : (M.access (Rect.unit (s := S2048x1024) off S1024x1024.size inb)).Stores Finset.univ}
    {hm : (Finset.univ : Finset (Rect.unit (s := S2048x1024) off S1024x1024.size inb).shape.Idx) = Finset.univ
      ∨ ∀ a, (Rect.unit (s := S2048x1024) off S1024x1024.size inb).stride a = 1} :
    halfDone m c d
      ⊢ iprop((owns (c : Thread nD τ) (bufO d) fullShare (outv m d c) -∗ run c (kk ⟨⟩) Q)
        -∗ run c (.op (.store M (Rect.unit (s := S2048x1024) off S1024x1024.size inb) v Finset.univ hx hm) kk) Q) := by
  unfold halfDone
  iintro ⟨%X, %hX, H⟩ Hk
  iapply (wp_storeHalf c d 1 X v hM (ho.trans rfl)) $$ H
  iintro %X' %hX' H
  iapply Hk
  have e : X' = outv m d c := ext_halves fun w => by
    rw [rowHalf_outv]
    match w with
    | 0 => exact (hX'.2 0 (by decide)).trans hX
    | 1 => exact hX'.1.trans hv
  rw [← e]
  iexact H

/-! ## Addresses -/

/-- A block of an 8192 × 2048 array by its offsets. -/
theorem blk_eq (M : Memref sig .tc .hbm S8192x2048 .bf16) {off : Fin 2 → ℕ} {inb : ∀ a, off a + S2048x1024.size a ≤ S8192x2048.size a}
    {hr : ∀ a, (Rect.unit (s := S8192x2048) off S2048x1024.size inb).stride a = 1} (e : Fin 4) (j : Fin 2) (h : off = ![2048 * e.val, 1024 * j.val]) :
    M.slice (Rect.unit (s := S8192x2048) off S2048x1024.size inb) hr = blk M e j := by subst h; rfl

/-- Recasting a loaded half slab. -/
theorem pay7_eq (X : Vec F S1024x1024 .bf16) : k0_pay7 (shapeCast S1x1024x1024 X casts_half) = X := cast_half X
/-- Recasting a loaded half slab. -/
theorem pay8_eq (X : Vec F S1024x1024 .bf16) : k0_pay8 (shapeCast S1x1024x1024 X casts_half) = X := cast_half X

end Cert.Ring
-- ==== Proof.Args.lean ====
/-
# The body's operands, addresses and neighbours

The kernel's body at its own buffers, the addresses of the blocks it moves, and the devices it signals.
-/
module

public import proofs.«01_k».proof.Proof.Rules

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- A function of the body's operands, at the kernel's own buffers and semaphores. -/
abbrev onArgs {β : Type 1} (f : (arg0 : Memref sig .tc .hbm S8192x2048 .bf16) → arg0.IsWhole
    → (arg1 : Memref sig .tc .vmem S2048x2048 .bf16) → arg1.IsWhole → (arg2 : Memref sig .tc .hbm S8192x2048 .bf16) → arg2.IsWhole
    → (arg3 : Memref sig .tc .vmem S2048x1024 .bf16) → arg3.IsWhole → (arg4 : Memref sig .tc .vmem S2048x1024 .bf16) → arg4.IsWhole
    → (arg5 : Memref sig .tc .vmem S3x2048x1024 .bf16) → arg5.IsWhole → (arg6 : Memref sig .tc .vmem S3x2048x1024 .bf16) → arg6.IsWhole
    → (arg7 : Memref sig .tc .vmem S2048x1024 .bf16) → arg7.IsWhole → (arg8 : Memref sig .tc .vmem S2048x1024 .bf16) → arg8.IsWhole
    → DmaSems sig S4 → DmaSems sig S8 → DmaSems sig S3 → DmaSems sig S3 → DmaSems sig S3 → DmaSems sig S3
    → DmaSems sig S3 → DmaSems sig S3 → DmaSems sig S3 → DmaSems sig S3 → β) : β :=
  f tM (Memref.isWhole_whole _) wM (Memref.isWhole_whole _) vM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15

/-! ## The blocks of the argument that are loaded -/

/-- Where chunk 0 of the upward stream is loaded from. -/
theorem off_a0 (c : Dev nD) : k0_off1 c 3#32 = ![2048 * (ch false 0 c).val, 1024 * (col false).val] := by revert c; decide
/-- Where chunk 0 of the downward stream is loaded from. -/
theorem off_b0 (c : Dev nD) : k0_off2 c 1#32 = ![2048 * (ch true 0 c).val, 1024 * (col true).val] := by revert c; decide
/-- Where chunk 1 of the upward stream is loaded from. -/
theorem off_a1 (c : Dev nD) : k0_off1 c 2#32 = ![2048 * (ch false 1 c).val, 1024 * (col false).val] := by revert c; decide
/-- Where chunk 1 of the downward stream is loaded from. -/
theorem off_b1 (c : Dev nD) : k0_off2 c 2#32 = ![2048 * (ch true 1 c).val, 1024 * (col true).val] := by revert c; decide
/-- Where chunk 2 of the upward stream is loaded from. -/
theorem off_a2 (c : Dev nD) : k0_off3 c 1#32 = ![2048 * (ch false 2 c).val, 1024 * (col false).val] := by revert c; decide
/-- Where chunk 2 of the downward stream is loaded from. -/
theorem off_b2 (c : Dev nD) : k0_off4 c 2#32 1#32 = ![2048 * (ch true 2 c).val, 1024 * (col true).val] := by revert c; decide
/-- Where chunk 3 of the upward stream is loaded from. -/
theorem off_a3 (c : Dev nD) : k0_off3 c 2#32 = ![2048 * (ch false 3 c).val, 1024 * (col false).val] := by revert c; decide
/-- Where chunk 3 of the downward stream is loaded from. -/
theorem off_b3 (c : Dev nD) : k0_off4 c 2#32 2#32 = ![2048 * (ch true 3 c).val, 1024 * (col true).val] := by revert c; decide

/-! ## The blocks of the result that are stored -/

/-- Where block 0 of the upward stream is stored. -/
theorem off_va0 (c : Dev nD) : k0_off5 c = ![2048 * c.val, 1024 * (col false).val] := by revert c; decide
/-- Where block 0 of the downward stream is stored. -/
theorem off_vb0 (c : Dev nD) : k0_off6 c = ![2048 * c.val, 1024 * (col true).val] := by revert c; decide
/-- Where block 1 of the upward stream is stored. -/
theorem off_va1 (c : Dev nD) : k0_off7 c 0#32 = ![2048 * (prv c).val, 1024 * (col false).val] := by revert c; decide
/-- Where block 1 of the downward stream is stored. -/
theorem off_vb1 (c : Dev nD) : k0_off4 c 1#32 0#32 = ![2048 * (nxt c).val, 1024 * (col true).val] := by revert c; decide
/-- Where block 2 of the upward stream is stored. -/
theorem off_va2 (c : Dev nD) : k0_off7 c 1#32 = ![2048 * (prv (prv c)).val, 1024 * (col false).val] := by revert c; decide
/-- Where block 2 of the downward stream is stored. -/
theorem off_vb2 (c : Dev nD) : k0_off4 c 1#32 1#32 = ![2048 * (nxt (nxt c)).val, 1024 * (col true).val] := by revert c; decide
/-- Where block 3 of the upward stream is stored. -/
theorem off_va3 (c : Dev nD) : k0_off7 c 2#32 = ![2048 * (prv (prv (prv c))).val, 1024 * (col false).val] := by revert c; decide
/-- Where block 3 of the downward stream is stored. -/
theorem off_vb3 (c : Dev nD) : k0_off4 c 1#32 2#32 = ![2048 * (nxt (nxt (nxt c))).val, 1024 * (col true).val] := by revert c; decide

/-! ## The neighbours -/

/-- Target 1 is the previous device. -/
theorem dev_1 (c : Dev nD) : (⟨k0_dev1 c, k0_dev1_lt c⟩ : Dev nD) = prv c := by revert c; decide
/-- Target 2 is the next device. -/
theorem dev_2 (c : Dev nD) : (⟨k0_dev2 c, k0_dev2_lt c⟩ : Dev nD) = nxt c := by revert c; decide
/-- Target 3 is the next device. -/
theorem dev_3 (c : Dev nD) : (⟨k0_dev3 c, k0_dev3_lt c⟩ : Dev nD) = nxt c := by revert c; decide
/-- Target 4 is the previous device. -/
theorem dev_4 (c : Dev nD) : (⟨k0_dev4 c, k0_dev4_lt c⟩ : Dev nD) = prv c := by revert c; decide
/-- Target 5 is the next device. -/
theorem dev_5 (c : Dev nD) : (⟨k0_dev5 c, k0_dev5_lt c⟩ : Dev nD) = nxt c := by revert c; decide
/-- Target 6 is the previous device. -/
theorem dev_6 (c : Dev nD) : (⟨k0_dev6 c, k0_dev6_lt c⟩ : Dev nD) = prv c := by revert c; decide
/-- Target 7 is the next device. -/
theorem dev_7 (c : Dev nD) : (⟨k0_dev7 c, k0_dev7_lt c⟩ : Dev nD) = nxt c := by revert c; decide
/-- Target 8 is the previous device. -/
theorem dev_8 (c : Dev nD) : (⟨k0_dev8 c, k0_dev8_lt c⟩ : Dev nD) = prv c := by revert c; decide
/-- Target 9 is the next device. -/
theorem dev_9 (c : Dev nD) : (⟨k0_dev9 c, k0_dev9_lt c⟩ : Dev nD) = nxt c := by revert c; decide
/-- Target 10 is the previous device. -/
theorem dev_10 (c : Dev nD) : (⟨k0_dev10 c, k0_dev10_lt c⟩ : Dev nD) = prv c := by revert c; decide
/-- Target 11 is the next device. -/
theorem dev_11 (c : Dev nD) : (⟨k0_dev11 c, k0_dev11_lt c⟩ : Dev nD) = nxt c := by revert c; decide
/-- Target 12 is the previous device. -/
theorem dev_12 (c : Dev nD) : (⟨k0_dev12 c, k0_dev12_lt c⟩ : Dev nD) = prv c := by revert c; decide
/-- Target 13 is the next device. -/
theorem dev_13 (c : Dev nD) : (⟨k0_dev13 c, k0_dev13_lt c⟩ : Dev nD) = nxt c := by revert c; decide
/-- Target 14 is the previous device. -/
theorem dev_14 (c : Dev nD) : (⟨k0_dev14 c, k0_dev14_lt c⟩ : Dev nD) = prv c := by revert c; decide

/-! ## Resources -/

/-- A chunk's transfer has the same credit wherever it lands. -/
theorem credit_eq {sp : Space} (M : Memref sig .tc sp S2048x1024 .bf16) : M.view.dmaCredit = N := rfl

omit [FloatOps F] in
/-- The three receive slots of a stream on one device. -/
theorem slots_eq (d : Bool) (c : Dev nD) :
    (slots d c : sProp (MT nD τ sig Unit (Elt F) ℕ UU ℕ)) = iprop(anyAt c (slot d 0) ∗ anyAt c (slot d 1) ∗ anyAt c (slot d 2)) := rfl

/-! ## The product's operands -/

/-- Recasting a loaded half slab. -/
theorem pay12_eq (X : Vec F S1024x1024 .bf16) : k0_pay12 (shapeCast S1x1024x1024 X casts_half) = X := cast_half X
/-- Recasting a loaded half slab. -/
theorem pay13_eq (X : Vec F S1024x1024 .bf16) : k0_pay13 (shapeCast S1x1024x1024 X casts_half) = X := cast_half X

/-- The second row half of the upward stream's product, before it is stored. -/
def half14 (c : Dev nD) : FVec F S1024x1024 .bf16 :=
  k0_pay14 (shapeCast S1x1024x1024 (rowHalf 1 (acc m false 3 c)) casts_half) (shapeCast S1x1024x1024 (rowHalf 1 (acc m true 3 c)) casts_half) (wQ m c 0 0) (wQ m c 1 0)
/-- Its definition. -/
theorem half14_eq (c : Dev nD) :
    k0_pay14 (shapeCast S1x1024x1024 (rowHalf 1 (acc m false 3 c)) casts_half) (shapeCast S1x1024x1024 (rowHalf 1 (acc m true 3 c)) casts_half) (wQ m c 0 0) (wQ m c 1 0)
      = half14 m c := rfl
/-- What is stored of it. -/
theorem half14_out (c : Dev nD) : k0_pay15 (half14 m c) = outQ m c 1 false := by
  unfold half14 k0_pay14
  rw [pay12_eq, pay13_eq]
  rfl

end Cert.Ring
-- ==== Proof.PartsA.lean ====
/-
# The kernel's body, part by part: the reduce-scatter
-/
module

public import proofs.«01_k».proof.Proof.Args

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable {α : Type} {Q : α → sProp (MT nD τ sig Unit (Elt F) ℕ UU ℕ)}

/-- Part 1: it starts loading both streams' first chunks, and the second chunk of the upward stream. -/
theorem wp_part1 (K : Dev nD × Fin 37 → ℕ) (c : Dev nD) {kk : (Σ' (_ : Dev nD) (_ : BitVec 32) (_ : BitVec 32), BitVec 32) → Prog (TpuEff nD τ sig (Elt F) Λ₀ .tc) α} :
    iprop(records m K ∗ At c 1 0 ∗ tok c 1 0 ∗ tP m c false 0 ∗ anyAt c (bufO false) ∗ At c 2 0 ∗ tok c 2 0 ∗ tP m c true 0 ∗ anyAt c (bufO true) ∗ At c 3 0 ∗ tok c 3 0 ∗
      tP m c false 1 ∗ anyAt c (bufS false))
      ⊢ iprop((∀ v2 v5 v7, (At c 1 0 ∗ At c 3 0 ∗ At c 2 0 ∗ cr c 1 ∗ cr c 2 ∗ cr c 3)
          -∗ run c (kk ⟨c, v2, v5, v7⟩) Q) -∗ run c (onArgs (k0_part1 (F := F)) >>= kk) Q) := by
  rw [k0_part1_eq_skeleton]
  simp only [onArgs]
  unfold k0_part1_skel
  simp only [semSignalWord, semWaitWord, Prog.lift, Prog.bind_op, Prog.bind_ret, Prog.pure_eq_ret, Prog.bind_assoc, wp_deviceId]
  iintro ⟨#HR, HAL1, HtLa0, HTa0, HOa, HAL2, HtLb0, HTb0, HOb, HAL3, HtLa1, HTa1, HSa⟩ Hk
  iapply (go_load m K c false 0 (k := 1) rfl (r := 0) rfl rfl (blk_eq tM (ch false 0 c) (col false) (off_a0 c)) rfl (T := tP m c false 0) (D := anyAt c (bufO false)) rfl rfl) $$ [HAL1 HtLa0 HTa0 HOa]
  · isplitr; · iexact HR
    isplitl [HAL1]; · iexact HAL1
    isplitl [HtLa0]; · iexact HtLa0
    isplitl [HTa0]; · iexact HTa0
    iexact HOa
  iintro ⟨HcL1, HAL1⟩
  iapply (go_load m K c true 0 (k := 2) rfl (r := 0) rfl rfl (blk_eq tM (ch true 0 c) (col true) (off_b0 c)) rfl (T := tP m c true 0) (D := anyAt c (bufO true)) rfl rfl) $$ [HAL2 HtLb0 HTb0 HOb]
  · isplitr; · iexact HR
    isplitl [HAL2]; · iexact HAL2
    isplitl [HtLb0]; · iexact HtLb0
    isplitl [HTb0]; · iexact HTb0
    iexact HOb
  iintro ⟨HcL2, HAL2⟩
  iapply (go_load m K c false 1 (k := 3) rfl (r := 0) rfl rfl (blk_eq tM (ch false 1 c) (col false) (off_a1 c)) rfl (T := tP m c false 1) (D := anyAt c (bufS false)) rfl rfl) $$ [HAL3 HtLa1 HTa1 HSa]
  · isplitr; · iexact HR
    isplitl [HAL3]; · iexact HAL3
    isplitl [HtLa1]; · iexact HtLa1
    isplitl [HTa1]; · iexact HTa1
    iexact HSa
  iintro ⟨HcL3, HAL3⟩
  iapply Hk
  isplitl [HAL1]; · iexact HAL1
  isplitl [HAL3]; · iexact HAL3
  isplitl [HAL2]; · iexact HAL2
  isplitl [HcL1]; · iexact HcL1
  isplitl [HcL2]; · iexact HcL2
  iexact HcL3

/-- Part 2: the last second-stage load, the barrier, and the first hop of the upward stream. -/
theorem wp_part2 (K : Dev nD × Fin 37 → ℕ) (c : Dev nD) (v5 v7 : BitVec 32) {kk : PUnit → Prog (TpuEff nD τ sig (Elt F) Λ₀ .tc) α} :
    iprop(records m K ∗ At c 4 0 ∗ tok c 4 0 ∗ tP m c true 1 ∗ anyAt c (bufS true) ∗ Owes c 14 ∗ dutyTok ER (cell (prv c) 0) 0 false ∗ slots false c ∗
      dutyTok ER (cell (nxt c) 0) 0 true ∗ slots true c ∗ cred (tallyAt (cell c 0) () 2) ∗ At c 0 0 ∗ cr c 1 ∗ At c 1 0 ∗ cr c 2 ∗ At c 2 0 ∗
      tok c (kS false 0) 0 ∗ tok (nxt c) (kR false 0) 0)
      ⊢ iprop(((tP m c false 0 ∗ At c 1 1 ∗ tP m c true 0 ∗ owns (c : Thread nD τ) (bufO true) fullShare (acc m true 0 c) ∗ At c 2 1 ∗ At c 4 0 ∗ At c 0 1 ∗
        Owes c 11 ∗ cr c 4 ∗ anyAt (nxt c) (slot false 1) ∗ anyAt (nxt c) (slot false 2) ∗ anyAt (prv c) (slot true 0) ∗ anyAt (prv c) (slot true 1) ∗
        anyAt (prv c) (slot true 2) ∗ cr c (kS false 0))
          -∗ run c (kk ⟨⟩) Q) -∗ run c (onArgs (k0_part2 (F := F)) c v5 v7 >>= kk) Q) := by
  rw [k0_part2_eq_skeleton]
  simp only [onArgs]
  unfold k0_part2_skel
  simp only [semSignalWord, semWaitWord, Prog.lift, Prog.bind_op, Prog.bind_ret, Prog.pure_eq_ret, Prog.bind_assoc]
  iintro ⟨#HR, HAL4, HtLb1, HTb1, HSb, HOw, HtBa, Hsla, HtBb, Hslb, HcB, HAB, HcL1, HAL1, HcL2, HAL2, HtSa0, HtRa0⟩ Hk
  iapply (go_load m K c true 1 (k := 4) rfl (r := 0) rfl rfl (blk_eq tM (ch true 1 c) (col true) (off_b1 c)) rfl (T := tP m c true 1) (D := anyAt c (bufS true)) rfl rfl) $$ [HAL4 HtLb1 HTb1 HSb]
  · isplitr; · iexact HR
    isplitl [HAL4]; · iexact HAL4
    isplitl [HtLb1]; · iexact HtLb1
    isplitl [HTb1]; · iexact HTb1
    iexact HSb
  iintro ⟨HcL4, HAL4⟩
  iapply (go_signal m K c false 13 14 rfl rfl rfl (dev_1 c) (c'' := (prv c)) rfl rfl) $$ [HOw HtBa Hsla]
  · isplitr; · iexact HR
    isplitl [HOw]; · iexact HOw
    isplitl [HtBa]; · iexact HtBa
    iexact Hsla
  iintro HOw
  iapply (go_signal m K c true 12 13 rfl rfl rfl (dev_2 c) (c'' := (nxt c)) rfl rfl) $$ [HOw HtBb Hslb]
  · isplitr; · iexact HR
    isplitl [HOw]; · iexact HOw
    isplitl [HtBb]; · iexact HtBb
    iexact Hslb
  iintro HOw
  iapply (go_barrier m K c rfl) $$ [HcB HOw HAB]
  · isplitr; · iexact HR
    isplitl [HcB]; · iexact HcB
    isplitl [HOw]; · iexact HOw
    iexact HAB
  iintro ⟨HOw, HAB, HXa, HXb⟩
  ihave HXa := (Entails.of_eq (slots_eq false (nxt c))) $$ HXa
  icases HXa with ⟨HDa0, HDa1, HDa2⟩
  ihave HXb := (Entails.of_eq (slots_eq true (prv c))) $$ HXb
  icases HXb with ⟨HDb0, HDb1, HDb2⟩
  iapply (go_waitLoad m K c false 0 (k := 1) rfl (r := 0) (r' := 1) rfl rfl 12 (by decide) (by decide) rfl (credit_eq _) (P := owns (c : Thread nD τ) (bufO false) fullShare (acc m false 0 c)) (T := tP m c false 0) rfl) $$ [HcL1 HOw HAL1]
  · isplitr; · iexact HR
    isplitl [HcL1]; · iexact HcL1
    isplitl [HOw]; · iexact HOw
    iexact HAL1
  iintro ⟨HOw, HAL1, HOa, HTa0⟩
  iapply (go_waitLoad m K c true 0 (k := 2) rfl (r := 0) (r' := 1) rfl rfl 12 (by decide) (by decide) rfl (credit_eq _) (P := owns (c : Thread nD τ) (bufO true) fullShare (acc m true 0 c)) (T := tP m c true 0) rfl) $$ [HcL2 HOw HAL2]
  · isplitr; · iexact HR
    isplitl [HcL2]; · iexact HcL2
    isplitl [HOw]; · iexact HOw
    iexact HAL2
  iintro ⟨HOw, HAL2, HOb, HTb0⟩
  iapply (go_hop m K c false 0 11 12 rfl rfl rfl (dev_3 c) rfl rfl rfl rfl (P := owns (c : Thread nD τ) (bufO false) fullShare (acc m false 0 c)) (D := anyAt (nxt c) (slot false 0)) (E := iprop(emp)) rfl rfl rfl (c'' := (nxt c)) rfl) $$ [HtSa0 HtRa0 HOa HDa0 HOw]
  · isplitr; · iexact HR
    isplitl [HtSa0]; · iexact HtSa0
    isplitl [HtRa0]; · iexact HtRa0
    isplitl [HOa]; · iexact HOa
    isplitl [HDa0]; · iexact HDa0
    isplitr; · iempintro
    iexact HOw
  iintro ⟨HcSa0, HOw⟩
  iapply Hk
  isplitl [HTa0]; · iexact HTa0
  isplitl [HAL1]; · iexact HAL1
  isplitl [HTb0]; · iexact HTb0
  isplitl [HOb]; · iexact HOb
  isplitl [HAL2]; · iexact HAL2
  isplitl [HAL4]; · iexact HAL4
  isplitl [HAB]; · iexact HAB
  isplitl [HOw]; · iexact HOw
  isplitl [HcL4]; · iexact HcL4
  isplitl [HDa1]; · iexact HDa1
  isplitl [HDa2]; · iexact HDa2
  isplitl [HDb0]; · iexact HDb0
  isplitl [HDb1]; · iexact HDb1
  isplitl [HDb2]; · iexact HDb2
  iexact HcSa0

/-- Part 3: the first hop of the downward stream, and the waits for both first hops. -/
theorem wp_part3 (K : Dev nD × Fin 37 → ℕ) (c : Dev nD) (v5 v7 : BitVec 32) {kk : PUnit → Prog (TpuEff nD τ sig (Elt F) Λ₀ .tc) α} :
    iprop(records m K ∗ tok c (kS true 0) 0 ∗ tok (prv c) (kR true 0) 0 ∗ owns (c : Thread nD τ) (bufO true) fullShare (acc m true 0 c) ∗ anyAt (prv c) (slot true 0) ∗
      Owes c 11 ∗ cr c (kS false 0) ∗ At c (kS false 0) 0 ∗ cr c (kR false 0) ∗ At c (kR false 0) 0 ∗ At c (kS true 0) 0 ∗ cr c (kR true 0) ∗
      At c (kR true 0) 0 ∗ cr c 3 ∗ At c 3 0)
      ⊢ iprop(((tP m c false 1 ∗ owns (c : Thread nD τ) (bufS false) fullShare (tBlk m c (ch false 1 c) false) ∗
        owns (c : Thread nD τ) (bufO false) fullShare (acc m false 0 c) ∗ At c (kS false 0) 1 ∗ At c (kR false 0) 1 ∗ At c 3 1 ∗
        owns (c : Thread nD τ) (bufO true) fullShare (acc m true 0 c) ∗ At c (kS true 0) 1 ∗ At c (kR true 0) 1 ∗ Owes c 10 ∗
        owns (c : Thread nD τ) (slot false 0) fullShare (acc m false 0 (prv c)) ∗ owns (c : Thread nD τ) (slot true 0) fullShare (acc m true 0 (nxt c)))
          -∗ run c (kk ⟨⟩) Q) -∗ run c (onArgs (k0_part3 (F := F)) c v5 v7 >>= kk) Q) := by
  rw [k0_part3_eq_skeleton]
  simp only [onArgs]
  unfold k0_part3_skel
  simp only [semSignalWord, semWaitWord, Prog.lift, Prog.bind_op, Prog.bind_ret, Prog.pure_eq_ret, Prog.bind_assoc]
  iintro ⟨#HR, HtSb0, HtRb0, HOb, HDb0, HOw, HcSa0, HASa0, HcRa0, HARa0, HASb0, HcRb0, HARb0, HcL3, HAL3⟩ Hk
  iapply (go_hop m K c true 0 10 11 rfl rfl rfl (dev_4 c) rfl rfl rfl rfl (P := owns (c : Thread nD τ) (bufO true) fullShare (acc m true 0 c)) (D := anyAt (prv c) (slot true 0)) (E := iprop(emp)) rfl rfl rfl (c'' := (prv c)) rfl) $$ [HtSb0 HtRb0 HOb HDb0 HOw]
  · isplitr; · iexact HR
    isplitl [HtSb0]; · iexact HtSb0
    isplitl [HtRb0]; · iexact HtRb0
    isplitl [HOb]; · iexact HOb
    isplitl [HDb0]; · iexact HDb0
    isplitr; · iempintro
    iexact HOw
  iintro ⟨HcSb0, HOw⟩
  iapply (go_waitSend m K c false 0 10 (by decide) (by decide) rfl (credit_eq _) (P := owns (c : Thread nD τ) (bufO false) fullShare (acc m false 0 c)) rfl) $$ [HcSa0 HOw HASa0]
  · isplitr; · iexact HR
    isplitl [HcSa0]; · iexact HcSa0
    isplitl [HOw]; · iexact HOw
    iexact HASa0
  iintro ⟨HOw, HASa0, HOa⟩
  iapply (go_waitRecv m K c false 0 10 (by decide) (by decide) rfl (credit_eq _) (P := owns (c : Thread nD τ) (slot false 0) fullShare (acc m false 0 (prv c))) (E := iprop(emp)) rfl) $$ [HcRa0 HOw HARa0]
  · isplitr; · iexact HR
    isplitl [HcRa0]; · iexact HcRa0
    isplitl [HOw]; · iexact HOw
    iexact HARa0
  iintro ⟨HOw, HARa0, HRa0, _⟩
  iapply (go_waitSend m K c true 0 10 (by decide) (by decide) rfl (credit_eq _) (P := owns (c : Thread nD τ) (bufO true) fullShare (acc m true 0 c)) rfl) $$ [HcSb0 HOw HASb0]
  · isplitr; · iexact HR
    isplitl [HcSb0]; · iexact HcSb0
    isplitl [HOw]; · iexact HOw
    iexact HASb0
  iintro ⟨HOw, HASb0, HOb⟩
  iapply (go_waitRecv m K c true 0 10 (by decide) (by decide) rfl (credit_eq _) (P := owns (c : Thread nD τ) (slot true 0) fullShare (acc m true 0 (nxt c))) (E := iprop(emp)) rfl) $$ [HcRb0 HOw HARb0]
  · isplitr; · iexact HR
    isplitl [HcRb0]; · iexact HcRb0
    isplitl [HOw]; · iexact HOw
    iexact HARb0
  iintro ⟨HOw, HARb0, HRb0, _⟩
  iapply (go_waitLoad m K c false 1 (k := 3) rfl (r := 0) (r' := 1) rfl rfl 10 (by decide) (by decide) rfl (credit_eq _) (P := owns (c : Thread nD τ) (bufS false) fullShare (tBlk m c (ch false 1 c) false)) (T := tP m c false 1) rfl) $$ [HcL3 HOw HAL3]
  · isplitr; · iexact HR
    isplitl [HcL3]; · iexact HcL3
    isplitl [HOw]; · iexact HOw
    iexact HAL3
  iintro ⟨HOw, HAL3, HSa, HTa1⟩
  iapply Hk
  isplitl [HTa1]; · iexact HTa1
  isplitl [HSa]; · iexact HSa
  isplitl [HOa]; · iexact HOa
  isplitl [HASa0]; · iexact HASa0
  isplitl [HARa0]; · iexact HARa0
  isplitl [HAL3]; · iexact HAL3
  isplitl [HOb]; · iexact HOb
  isplitl [HASb0]; · iexact HASb0
  isplitl [HARb0]; · iexact HARb0
  isplitl [HOw]; · iexact HOw
  isplitl [HRa0]; · iexact HRa0
  iexact HRb0

/-- Part 4: the two chunks that have landed are added to the device's own. -/
theorem wp_part4 (K : Dev nD × Fin 37 → ℕ) (c : Dev nD) (v2 : BitVec 32) {kk : PUnit → Prog (TpuEff nD τ sig (Elt F) Λ₀ .tc) α} :
    iprop(records m K ∗ cr c 4 ∗ Owes c 10 ∗ At c 4 0 ∗ owns (c : Thread nD τ) (slot false 0) fullShare (acc m false 0 (prv c)) ∗
      owns (c : Thread nD τ) (bufS false) fullShare (tBlk m c (ch false 1 c) false) ∗
      owns (c : Thread nD τ) (slot true 0) fullShare (acc m true 0 (nxt c)) ∗ At c 3 1 ∗ tok c 3 1 ∗ tP m c false 2)
      ⊢ iprop(((At c 3 1 ∗ tP m c true 1 ∗ owns (c : Thread nD τ) (bufS true) fullShare (tBlk m c (ch true 1 c) true) ∗ At c 4 1 ∗ Owes c 10 ∗ cr c 3 ∗
        owns (c : Thread nD τ) (slot false 0) fullShare (acc m false 1 c) ∗ owns (c : Thread nD τ) (slot true 0) fullShare (acc m true 1 c))
          -∗ run c (kk ⟨⟩) Q) -∗ run c (onArgs (k0_part4 (F := F)) c v2 >>= kk) Q) := by
  rw [k0_part4_eq_skeleton]
  simp only [onArgs]
  unfold k0_part4_skel
  simp only [semSignalWord, semWaitWord, Prog.lift, Prog.bind_op, Prog.bind_ret, Prog.pure_eq_ret, Prog.bind_assoc]
  iintro ⟨#HR, HcL4, HOw, HAL4, HRa0, HSa, HRb0, HAL3, HtLa2, HTa2⟩ Hk
  iapply (go_waitLoad m K c true 1 (k := 4) rfl (r := 0) (r' := 1) rfl rfl 10 (by decide) (by decide) rfl (credit_eq _) (P := owns (c : Thread nD τ) (bufS true) fullShare (tBlk m c (ch true 1 c) true)) (T := tP m c true 1) rfl) $$ [HcL4 HOw HAL4]
  · isplitr; · iexact HR
    isplitl [HcL4]; · iexact HcL4
    isplitl [HOw]; · iexact HOw
    iexact HAL4
  iintro ⟨HOw, HAL4, HSb, HTb1⟩
  iapply (wp_loadSlot c false 0 fullShare (acc m false 0 (prv c)) rfl rfl) $$ HRa0
  iintro HRa0
  iapply (wp_loadS c false fullShare (tBlk m c (ch false 1 c) false) rfl (by decide)) $$ HSa
  iintro HSa
  iapply (wp_loadSlot c false 0 fullShare (acc m false 0 (prv c)) rfl rfl) $$ HRa0
  iintro HRa0
  iapply (go_storeAcc m c false 0 0 (c' := (prv c)) rfl _ rfl rfl rfl) $$ HRa0
  iintro HRa0
  iapply (wp_loadSlot c true 0 fullShare (acc m true 0 (nxt c)) rfl rfl) $$ HRb0
  iintro HRb0
  iapply (wp_loadS c true fullShare (tBlk m c (ch true 1 c) true) rfl (by decide)) $$ HSb
  iintro HSb
  iapply (wp_loadSlot c true 0 fullShare (acc m true 0 (nxt c)) rfl rfl) $$ HRb0
  iintro HRb0
  iapply (go_storeAcc m c true 0 0 (c' := (nxt c)) rfl _ rfl rfl rfl) $$ HRb0
  iintro HRb0
  ihave HSa := (any_intro c (bufS false) _) $$ HSa
  iapply (go_load m K c false 2 (k := 3) rfl (r := 1) rfl rfl (blk_eq tM (ch false 2 c) (col false) (off_a2 c)) rfl (T := tP m c false 2) (D := anyAt c (bufS false)) rfl rfl) $$ [HAL3 HtLa2 HTa2 HSa]
  · isplitr; · iexact HR
    isplitl [HAL3]; · iexact HAL3
    isplitl [HtLa2]; · iexact HtLa2
    isplitl [HTa2]; · iexact HTa2
    iexact HSa
  iintro ⟨HcL3, HAL3⟩
  iapply Hk
  isplitl [HAL3]; · iexact HAL3
  isplitl [HTb1]; · iexact HTb1
  isplitl [HSb]; · iexact HSb
  isplitl [HAL4]; · iexact HAL4
  isplitl [HOw]; · iexact HOw
  isplitl [HcL3]; · iexact HcL3
  isplitl [HRa0]; · iexact HRa0
  iexact HRb0

/-- Part 5: the second hop of both streams starts. -/
theorem wp_part5 (K : Dev nD × Fin 37 → ℕ) (c : Dev nD) (v5 v7 : BitVec 32) {kk : PUnit → Prog (TpuEff nD τ sig (Elt F) Λ₀ .tc) α} :
    iprop(records m K ∗ owns (c : Thread nD τ) (bufS true) fullShare (tBlk m c (ch true 1 c) true) ∗ At c 4 1 ∗ tok c 4 1 ∗ tP m c true 2 ∗ tok c (kS false 1) 0 ∗
      tok (nxt c) (kR false 1) 0 ∗ owns (c : Thread nD τ) (slot false 0) fullShare (acc m false 1 c) ∗ anyAt (nxt c) (slot false 1) ∗ Owes c 10 ∗
      tok c (kS true 1) 0 ∗ tok (prv c) (kR true 1) 0 ∗ owns (c : Thread nD τ) (slot true 0) fullShare (acc m true 1 c) ∗ anyAt (prv c) (slot true 1))
      ⊢ iprop(((At c 4 1 ∗ Owes c 8 ∗ cr c 4 ∗ cr c (kS false 1) ∗ cr c (kS true 1))
          -∗ run c (kk ⟨⟩) Q) -∗ run c (onArgs (k0_part5 (F := F)) c v5 v7 >>= kk) Q) := by
  rw [k0_part5_eq_skeleton]
  simp only [onArgs]
  unfold k0_part5_skel
  simp only [semSignalWord, semWaitWord, Prog.lift, Prog.bind_op, Prog.bind_ret, Prog.pure_eq_ret, Prog.bind_assoc]
  iintro ⟨#HR, HSb, HAL4, HtLb2, HTb2, HtSa1, HtRa1, HRa0, HDa1, HOw, HtSb1, HtRb1, HRb0, HDb1⟩ Hk
  ihave HSb := (any_intro c (bufS true) _) $$ HSb
  iapply (go_load m K c true 2 (k := 4) rfl (r := 1) rfl rfl (blk_eq tM (ch true 2 c) (col true) (off_b2 c)) rfl (T := tP m c true 2) (D := anyAt c (bufS true)) rfl rfl) $$ [HAL4 HtLb2 HTb2 HSb]
  · isplitr; · iexact HR
    isplitl [HAL4]; · iexact HAL4
    isplitl [HtLb2]; · iexact HtLb2
    isplitl [HTb2]; · iexact HTb2
    iexact HSb
  iintro ⟨HcL4, HAL4⟩
  iapply (go_hop m K c false 1 9 10 rfl rfl rfl (dev_5 c) rfl rfl rfl rfl (P := owns (c : Thread nD τ) (slot false 0) fullShare (acc m false 1 c)) (D := anyAt (nxt c) (slot false 1)) (E := iprop(emp)) rfl rfl rfl (c'' := (nxt c)) rfl) $$ [HtSa1 HtRa1 HRa0 HDa1 HOw]
  · isplitr; · iexact HR
    isplitl [HtSa1]; · iexact HtSa1
    isplitl [HtRa1]; · iexact HtRa1
    isplitl [HRa0]; · iexact HRa0
    isplitl [HDa1]; · iexact HDa1
    isplitr; · iempintro
    iexact HOw
  iintro ⟨HcSa1, HOw⟩
  iapply (go_hop m K c true 1 8 9 rfl rfl rfl (dev_6 c) rfl rfl rfl rfl (P := owns (c : Thread nD τ) (slot true 0) fullShare (acc m true 1 c)) (D := anyAt (prv c) (slot true 1)) (E := iprop(emp)) rfl rfl rfl (c'' := (prv c)) rfl) $$ [HtSb1 HtRb1 HRb0 HDb1 HOw]
  · isplitr; · iexact HR
    isplitl [HtSb1]; · iexact HtSb1
    isplitl [HtRb1]; · iexact HtRb1
    isplitl [HRb0]; · iexact HRb0
    isplitl [HDb1]; · iexact HDb1
    isplitr; · iempintro
    iexact HOw
  iintro ⟨HcSb1, HOw⟩
  iapply Hk
  isplitl [HAL4]; · iexact HAL4
  isplitl [HOw]; · iexact HOw
  isplitl [HcL4]; · iexact HcL4
  isplitl [HcSa1]; · iexact HcSa1
  iexact HcSb1

/-- Part 6: the waits for both second hops. -/
theorem wp_part6 (K : Dev nD × Fin 37 → ℕ) (c : Dev nD) (v5 v7 : BitVec 32) {kk : PUnit → Prog (TpuEff nD τ sig (Elt F) Λ₀ .tc) α} :
    iprop(records m K ∗ cr c (kS false 1) ∗ Owes c 8 ∗ At c (kS false 1) 0 ∗ cr c (kR false 1) ∗ At c (kR false 1) 0 ∗ cr c (kS true 1) ∗ At c (kS true 1) 0 ∗
      cr c (kR true 1) ∗ At c (kR true 1) 0)
      ⊢ iprop(((At c (kS false 1) 1 ∗ At c (kR false 1) 1 ∗ At c (kS true 1) 1 ∗ At c (kR true 1) 1 ∗ Owes c 8 ∗
        owns (c : Thread nD τ) (slot false 0) fullShare (acc m false 1 c) ∗ owns (c : Thread nD τ) (slot true 0) fullShare (acc m true 1 c) ∗
        owns (c : Thread nD τ) (slot false 1) fullShare (acc m false 1 (prv c)) ∗ owns (c : Thread nD τ) (slot true 1) fullShare (acc m true 1 (nxt c)))
          -∗ run c (kk ⟨⟩) Q) -∗ run c (onArgs (k0_part6 (F := F)) v5 v7 >>= kk) Q) := by
  rw [k0_part6_eq_skeleton]
  simp only [onArgs]
  unfold k0_part6_skel
  simp only [semSignalWord, semWaitWord, Prog.lift, Prog.bind_op, Prog.bind_ret, Prog.pure_eq_ret, Prog.bind_assoc]
  iintro ⟨#HR, HcSa1, HOw, HASa1, HcRa1, HARa1, HcSb1, HASb1, HcRb1, HARb1⟩ Hk
  iapply (go_waitSend m K c false 1 8 (by decide) (by decide) rfl (credit_eq _) (P := owns (c : Thread nD τ) (slot false 0) fullShare (acc m false 1 c)) rfl) $$ [HcSa1 HOw HASa1]
  · isplitr; · iexact HR
    isplitl [HcSa1]; · iexact HcSa1
    isplitl [HOw]; · iexact HOw
    iexact HASa1
  iintro ⟨HOw, HASa1, HRa0⟩
  iapply (go_waitRecv m K c false 1 8 (by decide) (by decide) rfl (credit_eq _) (P := owns (c : Thread nD τ) (slot false 1) fullShare (acc m false 1 (prv c))) (E := iprop(emp)) rfl) $$ [HcRa1 HOw HARa1]
  · isplitr; · iexact HR
    isplitl [HcRa1]; · iexact HcRa1
    isplitl [HOw]; · iexact HOw
    iexact HARa1
  iintro ⟨HOw, HARa1, HRa1, _⟩
  iapply (go_waitSend m K c true 1 8 (by decide) (by decide) rfl (credit_eq _) (P := owns (c : Thread nD τ) (slot true 0) fullShare (acc m true 1 c)) rfl) $$ [HcSb1 HOw HASb1]
  · isplitr; · iexact HR
    isplitl [HcSb1]; · iexact HcSb1
    isplitl [HOw]; · iexact HOw
    iexact HASb1
  iintro ⟨HOw, HASb1, HRb0⟩
  iapply (go_waitRecv m K c true 1 8 (by decide) (by decide) rfl (credit_eq _) (P := owns (c : Thread nD τ) (slot true 1) fullShare (acc m true 1 (nxt c))) (E := iprop(emp)) rfl) $$ [HcRb1 HOw HARb1]
  · isplitr; · iexact HR
    isplitl [HcRb1]; · iexact HcRb1
    isplitl [HOw]; · iexact HOw
    iexact HARb1
  iintro ⟨HOw, HARb1, HRb1, _⟩
  iapply Hk
  isplitl [HASa1]; · iexact HASa1
  isplitl [HARa1]; · iexact HARa1
  isplitl [HASb1]; · iexact HASb1
  isplitl [HARb1]; · iexact HARb1
  isplitl [HOw]; · iexact HOw
  isplitl [HRa0]; · iexact HRa0
  isplitl [HRb0]; · iexact HRb0
  isplitl [HRa1]; · iexact HRa1
  iexact HRb1

/-- Part 7: the second sums. -/
theorem wp_part7 (K : Dev nD × Fin 37 → ℕ) (c : Dev nD) (v2 : BitVec 32) {kk : PUnit → Prog (TpuEff nD τ sig (Elt F) Λ₀ .tc) α} :
    iprop(records m K ∗ cr c 3 ∗ Owes c 8 ∗ At c 3 1 ∗ cr c 4 ∗ At c 4 1 ∗ owns (c : Thread nD τ) (slot false 1) fullShare (acc m false 1 (prv c)) ∗
      owns (c : Thread nD τ) (slot true 1) fullShare (acc m true 1 (nxt c)))
      ⊢ iprop(((tP m c false 2 ∗ owns (c : Thread nD τ) (bufS false) fullShare (tBlk m c (ch false 2 c) false) ∗ At c 3 2 ∗ tP m c true 2 ∗
        owns (c : Thread nD τ) (bufS true) fullShare (tBlk m c (ch true 2 c) true) ∗ At c 4 2 ∗ Owes c 8 ∗
        owns (c : Thread nD τ) (slot false 1) fullShare (acc m false 2 c) ∗ owns (c : Thread nD τ) (slot true 1) fullShare (acc m true 2 c))
          -∗ run c (kk ⟨⟩) Q) -∗ run c (onArgs (k0_part7 (F := F)) c v2 >>= kk) Q) := by
  rw [k0_part7_eq_skeleton]
  simp only [onArgs]
  unfold k0_part7_skel
  simp only [semSignalWord, semWaitWord, Prog.lift, Prog.bind_op, Prog.bind_ret, Prog.pure_eq_ret, Prog.bind_assoc]
  iintro ⟨#HR, HcL3, HOw, HAL3, HcL4, HAL4, HRa1, HRb1⟩ Hk
  iapply (go_waitLoad m K c false 2 (k := 3) rfl (r := 1) (r' := 2) rfl rfl 8 (by decide) (by decide) rfl (credit_eq _) (P := owns (c : Thread nD τ) (bufS false) fullShare (tBlk m c (ch false 2 c) false)) (T := tP m c false 2) rfl) $$ [HcL3 HOw HAL3]
  · isplitr; · iexact HR
    isplitl [HcL3]; · iexact HcL3
    isplitl [HOw]; · iexact HOw
    iexact HAL3
  iintro ⟨HOw, HAL3, HSa, HTa2⟩
  iapply (go_waitLoad m K c true 2 (k := 4) rfl (r := 1) (r' := 2) rfl rfl 8 (by decide) (by decide) rfl (credit_eq _) (P := owns (c : Thread nD τ) (bufS true) fullShare (tBlk m c (ch true 2 c) true)) (T := tP m c true 2) rfl) $$ [HcL4 HOw HAL4]
  · isplitr; · iexact HR
    isplitl [HcL4]; · iexact HcL4
    isplitl [HOw]; · iexact HOw
    iexact HAL4
  iintro ⟨HOw, HAL4, HSb, HTb2⟩
  iapply (wp_loadSlot c false 1 fullShare (acc m false 1 (prv c)) rfl rfl) $$ HRa1
  iintro HRa1
  iapply (wp_loadS c false fullShare (tBlk m c (ch false 2 c) false) rfl (by decide)) $$ HSa
  iintro HSa
  iapply (wp_loadSlot c false 1 fullShare (acc m false 1 (prv c)) rfl rfl) $$ HRa1
  iintro HRa1
  iapply (go_storeAcc m c false 1 1 (c' := (prv c)) rfl _ rfl rfl rfl) $$ HRa1
  iintro HRa1
  iapply (wp_loadSlot c true 1 fullShare (acc m true 1 (nxt c)) rfl rfl) $$ HRb1
  iintro HRb1
  iapply (wp_loadS c true fullShare (tBlk m c (ch true 2 c) true) rfl (by decide)) $$ HSb
  iintro HSb
  iapply (wp_loadSlot c true 1 fullShare (acc m true 1 (nxt c)) rfl rfl) $$ HRb1
  iintro HRb1
  iapply (go_storeAcc m c true 1 1 (c' := (nxt c)) rfl _ rfl rfl rfl) $$ HRb1
  iintro HRb1
  iapply Hk
  isplitl [HTa2]; · iexact HTa2
  isplitl [HSa]; · iexact HSa
  isplitl [HAL3]; · iexact HAL3
  isplitl [HTb2]; · iexact HTb2
  isplitl [HSb]; · iexact HSb
  isplitl [HAL4]; · iexact HAL4
  isplitl [HOw]; · iexact HOw
  isplitl [HRa1]; · iexact HRa1
  iexact HRb1

/-- Part 8: the third hop of both streams starts. -/
theorem wp_part8 (K : Dev nD × Fin 37 → ℕ) (c : Dev nD) (v5 v7 : BitVec 32) {kk : PUnit → Prog (TpuEff nD τ sig (Elt F) Λ₀ .tc) α} :
    iprop(records m K ∗ owns (c : Thread nD τ) (bufS false) fullShare (tBlk m c (ch false 2 c) false) ∗ At c 3 2 ∗ tok c 3 2 ∗ tP m c false 3 ∗
      owns (c : Thread nD τ) (bufS true) fullShare (tBlk m c (ch true 2 c) true) ∗ At c 4 2 ∗ tok c 4 2 ∗ tP m c true 3 ∗
      owns (c : Thread nD τ) (slot true 0) fullShare (acc m true 1 c) ∗ tok c (kS false 2) 0 ∗ tok (nxt c) (kR false 2) 0 ∗
      owns (c : Thread nD τ) (slot false 1) fullShare (acc m false 2 c) ∗ anyAt (nxt c) (slot false 2) ∗ Owes c 8 ∗
      owns (c : Thread nD τ) (slot false 0) fullShare (acc m false 1 c) ∗ tok c (kS true 2) 0 ∗ tok (prv c) (kR true 2) 0 ∗
      owns (c : Thread nD τ) (slot true 1) fullShare (acc m true 2 c) ∗ anyAt (prv c) (slot true 2))
      ⊢ iprop(((At c 3 2 ∗ At c 4 2 ∗ Owes c 6 ∗ cr c 3 ∗ cr c 4 ∗ cr c (kS false 2) ∗ cr c (kS true 2))
          -∗ run c (kk ⟨⟩) Q) -∗ run c (onArgs (k0_part8 (F := F)) c v5 v7 >>= kk) Q) := by
  rw [k0_part8_eq_skeleton]
  simp only [onArgs]
  unfold k0_part8_skel
  simp only [semSignalWord, semWaitWord, Prog.lift, Prog.bind_op, Prog.bind_ret, Prog.pure_eq_ret, Prog.bind_assoc]
  iintro ⟨#HR, HSa, HAL3, HtLa3, HTa3, HSb, HAL4, HtLb3, HTb3, HRb0, HtSa2, HtRa2, HRa1, HDa2, HOw, HRa0, HtSb2, HtRb2, HRb1, HDb2⟩ Hk
  ihave HSa := (any_intro c (bufS false) _) $$ HSa
  iapply (go_load m K c false 3 (k := 3) rfl (r := 2) rfl rfl (blk_eq tM (ch false 3 c) (col false) (off_a3 c)) rfl (T := tP m c false 3) (D := anyAt c (bufS false)) rfl rfl) $$ [HAL3 HtLa3 HTa3 HSa]
  · isplitr; · iexact HR
    isplitl [HAL3]; · iexact HAL3
    isplitl [HtLa3]; · iexact HtLa3
    isplitl [HTa3]; · iexact HTa3
    iexact HSa
  iintro ⟨HcL3, HAL3⟩
  ihave HSb := (any_intro c (bufS true) _) $$ HSb
  iapply (go_load m K c true 3 (k := 4) rfl (r := 2) rfl rfl (blk_eq tM (ch true 3 c) (col true) (off_b3 c)) rfl (T := tP m c true 3) (D := anyAt c (bufS true)) rfl rfl) $$ [HAL4 HtLb3 HTb3 HSb]
  · isplitr; · iexact HR
    isplitl [HAL4]; · iexact HAL4
    isplitl [HtLb3]; · iexact HtLb3
    isplitl [HTb3]; · iexact HTb3
    iexact HSb
  iintro ⟨HcL4, HAL4⟩
  ihave HRb0 := (any_intro c (slot true 0) _) $$ HRb0
  iapply (go_hop m K c false 2 7 8 rfl rfl rfl (dev_7 c) rfl rfl rfl rfl (P := owns (c : Thread nD τ) (slot false 1) fullShare (acc m false 2 c)) (D := anyAt (nxt c) (slot false 2)) (E := anyAt c (slot true 0)) rfl rfl rfl (c'' := (nxt c)) rfl) $$ [HtSa2 HtRa2 HRa1 HDa2 HRb0 HOw]
  · isplitr; · iexact HR
    isplitl [HtSa2]; · iexact HtSa2
    isplitl [HtRa2]; · iexact HtRa2
    isplitl [HRa1]; · iexact HRa1
    isplitl [HDa2]; · iexact HDa2
    isplitl [HRb0]; · iexact HRb0
    iexact HOw
  iintro ⟨HcSa2, HOw⟩
  ihave HRa0 := (any_intro c (slot false 0) _) $$ HRa0
  iapply (go_hop m K c true 2 6 7 rfl rfl rfl (dev_8 c) rfl rfl rfl rfl (P := owns (c : Thread nD τ) (slot true 1) fullShare (acc m true 2 c)) (D := anyAt (prv c) (slot true 2)) (E := anyAt c (slot false 0)) rfl rfl rfl (c'' := (prv c)) rfl) $$ [HtSb2 HtRb2 HRb1 HDb2 HRa0 HOw]
  · isplitr; · iexact HR
    isplitl [HtSb2]; · iexact HtSb2
    isplitl [HtRb2]; · iexact HtRb2
    isplitl [HRb1]; · iexact HRb1
    isplitl [HDb2]; · iexact HDb2
    isplitl [HRa0]; · iexact HRa0
    iexact HOw
  iintro ⟨HcSb2, HOw⟩
  iapply Hk
  isplitl [HAL3]; · iexact HAL3
  isplitl [HAL4]; · iexact HAL4
  isplitl [HOw]; · iexact HOw
  isplitl [HcL3]; · iexact HcL3
  isplitl [HcL4]; · iexact HcL4
  isplitl [HcSa2]; · iexact HcSa2
  iexact HcSb2

/-- Part 9: three of the waits for the third hops. -/
theorem wp_part9 (K : Dev nD × Fin 37 → ℕ) (c : Dev nD) (v5 v7 : BitVec 32) {kk : PUnit → Prog (TpuEff nD τ sig (Elt F) Λ₀ .tc) α} :
    iprop(records m K ∗ cr c (kS false 2) ∗ Owes c 6 ∗ At c (kS false 2) 0 ∗ cr c (kR false 2) ∗ At c (kR false 2) 0 ∗ cr c (kS true 2) ∗ At c (kS true 2) 0)
      ⊢ iprop(((At c (kS false 2) 1 ∗ At c (kR false 2) 1 ∗ At c (kS true 2) 1 ∗ Owes c 6 ∗ anyAt (prv c) (slot true 0) ∗
        owns (c : Thread nD τ) (slot false 1) fullShare (acc m false 2 c) ∗ owns (c : Thread nD τ) (slot true 1) fullShare (acc m true 2 c) ∗
        owns (c : Thread nD τ) (slot false 2) fullShare (acc m false 2 (prv c)))
          -∗ run c (kk ⟨⟩) Q) -∗ run c (onArgs (k0_part9 (F := F)) v5 v7 >>= kk) Q) := by
  rw [k0_part9_eq_skeleton]
  simp only [onArgs]
  unfold k0_part9_skel
  simp only [semSignalWord, semWaitWord, Prog.lift, Prog.bind_op, Prog.bind_ret, Prog.pure_eq_ret, Prog.bind_assoc]
  iintro ⟨#HR, HcSa2, HOw, HASa2, HcRa2, HARa2, HcSb2, HASb2⟩ Hk
  iapply (go_waitSend m K c false 2 6 (by decide) (by decide) rfl (credit_eq _) (P := owns (c : Thread nD τ) (slot false 1) fullShare (acc m false 2 c)) rfl) $$ [HcSa2 HOw HASa2]
  · isplitr; · iexact HR
    isplitl [HcSa2]; · iexact HcSa2
    isplitl [HOw]; · iexact HOw
    iexact HASa2
  iintro ⟨HOw, HASa2, HRa1⟩
  iapply (go_waitRecv m K c false 2 6 (by decide) (by decide) rfl (credit_eq _) (P := owns (c : Thread nD τ) (slot false 2) fullShare (acc m false 2 (prv c))) (E := anyAt (prv c) (slot true 0)) rfl) $$ [HcRa2 HOw HARa2]
  · isplitr; · iexact HR
    isplitl [HcRa2]; · iexact HcRa2
    isplitl [HOw]; · iexact HOw
    iexact HARa2
  iintro ⟨HOw, HARa2, HRa2, HDb0⟩
  iapply (go_waitSend m K c true 2 6 (by decide) (by decide) rfl (credit_eq _) (P := owns (c : Thread nD τ) (slot true 1) fullShare (acc m true 2 c)) rfl) $$ [HcSb2 HOw HASb2]
  · isplitr; · iexact HR
    isplitl [HcSb2]; · iexact HcSb2
    isplitl [HOw]; · iexact HOw
    iexact HASb2
  iintro ⟨HOw, HASb2, HRb1⟩
  iapply Hk
  isplitl [HASa2]; · iexact HASa2
  isplitl [HARa2]; · iexact HARa2
  isplitl [HASb2]; · iexact HASb2
  isplitl [HOw]; · iexact HOw
  isplitl [HDb0]; · iexact HDb0
  isplitl [HRa1]; · iexact HRa1
  isplitl [HRb1]; · iexact HRb1
  iexact HRa2

end Cert.Ring
-- ==== Proof.PartsB.lean ====
/-
# The kernel's body, part by part: the product and the all-gather
-/
module

public import proofs.«01_k».proof.Proof.PartsA

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable {α : Type} {Q : α → sProp (MT nD τ sig Unit (Elt F) ℕ UU ℕ)}

/-- Part 10: the last sums, and the first operands of the product. -/
theorem wp_part10 (K : Dev nD × Fin 37 → ℕ) (c : Dev nD) {kk : (Σ' (_ : FVec F S1024x1024 .bf16) (_ : FVec F S1024x1024 .bf16), FVec F S1024x1024 .bf16) → Prog (TpuEff nD τ sig (Elt F) Λ₀ .tc) α} :
    iprop(records m K ∗ cr c (kR true 2) ∗ Owes c 6 ∗ At c (kR true 2) 0 ∗ cr c 3 ∗ At c 3 2 ∗ cr c 4 ∗ At c 4 2 ∗
      owns (c : Thread nD τ) (slot false 2) fullShare (acc m false 2 (prv c)) ∗ owns (c : Thread nD τ) wM fullShare (wS m c))
      ⊢ iprop(((tP m c false 3 ∗ owns (c : Thread nD τ) (bufS false) fullShare (tBlk m c (ch false 3 c) false) ∗ At c 3 3 ∗ tP m c true 3 ∗
        owns (c : Thread nD τ) (bufS true) fullShare (tBlk m c (ch true 3 c) true) ∗ At c (kR true 2) 1 ∗ At c 4 3 ∗
        owns (c : Thread nD τ) wM fullShare (wS m c) ∗ Owes c 6 ∗ anyAt (nxt c) (slot false 0) ∗
        owns (c : Thread nD τ) (slot false 2) fullShare (acc m false 3 c) ∗ owns (c : Thread nD τ) (slot true 2) fullShare (acc m true 3 c))
          -∗ run c (kk ⟨rowHalf 0 (acc m false 3 c), rowHalf 0 (acc m true 3 c), k0_pay9 (wQ m c 0 0)⟩) Q) -∗ run c (onArgs (k0_part10 (F := F)) c >>= kk) Q) := by
  rw [k0_part10_eq_skeleton]
  simp only [onArgs]
  unfold k0_part10_skel
  simp only [semSignalWord, semWaitWord, Prog.lift, Prog.bind_op, Prog.bind_ret, Prog.pure_eq_ret, Prog.bind_assoc]
  iintro ⟨#HR, HcRb2, HOw, HARb2, HcL3, HAL3, HcL4, HAL4, HRa2, HW⟩ Hk
  iapply (go_waitRecv m K c true 2 6 (by decide) (by decide) rfl (credit_eq _) (P := owns (c : Thread nD τ) (slot true 2) fullShare (acc m true 2 (nxt c))) (E := anyAt (nxt c) (slot false 0)) rfl) $$ [HcRb2 HOw HARb2]
  · isplitr; · iexact HR
    isplitl [HcRb2]; · iexact HcRb2
    isplitl [HOw]; · iexact HOw
    iexact HARb2
  iintro ⟨HOw, HARb2, HRb2, HDa0⟩
  iapply (go_waitLoad m K c false 3 (k := 3) rfl (r := 2) (r' := 3) rfl rfl 6 (by decide) (by decide) rfl (credit_eq _) (P := owns (c : Thread nD τ) (bufS false) fullShare (tBlk m c (ch false 3 c) false)) (T := tP m c false 3) rfl) $$ [HcL3 HOw HAL3]
  · isplitr; · iexact HR
    isplitl [HcL3]; · iexact HcL3
    isplitl [HOw]; · iexact HOw
    iexact HAL3
  iintro ⟨HOw, HAL3, HSa, HTa3⟩
  iapply (go_waitLoad m K c true 3 (k := 4) rfl (r := 2) (r' := 3) rfl rfl 6 (by decide) (by decide) rfl (credit_eq _) (P := owns (c : Thread nD τ) (bufS true) fullShare (tBlk m c (ch true 3 c) true)) (T := tP m c true 3) rfl) $$ [HcL4 HOw HAL4]
  · isplitr; · iexact HR
    isplitl [HcL4]; · iexact HcL4
    isplitl [HOw]; · iexact HOw
    iexact HAL4
  iintro ⟨HOw, HAL4, HSb, HTb3⟩
  iapply (wp_loadSlot c false 2 fullShare (acc m false 2 (prv c)) rfl rfl) $$ HRa2
  iintro HRa2
  iapply (wp_loadS c false fullShare (tBlk m c (ch false 3 c) false) rfl (by decide)) $$ HSa
  iintro HSa
  iapply (wp_loadSlot c false 2 fullShare (acc m false 2 (prv c)) rfl rfl) $$ HRa2
  iintro HRa2
  iapply (go_storeAcc m c false 2 2 (c' := (prv c)) rfl _ rfl rfl rfl) $$ HRa2
  iintro HRa2
  iapply (wp_loadSlot c true 2 fullShare (acc m true 2 (nxt c)) rfl rfl) $$ HRb2
  iintro HRb2
  iapply (wp_loadS c true fullShare (tBlk m c (ch true 3 c) true) rfl (by decide)) $$ HSb
  iintro HSb
  iapply (wp_loadSlot c true 2 fullShare (acc m true 2 (nxt c)) rfl rfl) $$ HRb2
  iintro HRb2
  iapply (go_storeAcc m c true 2 2 (c' := (nxt c)) rfl _ rfl rfl rfl) $$ HRb2
  iintro HRb2
  iapply (wp_loadHalf c false 2 0 fullShare (acc m false 3 c) rfl rfl) $$ HRa2
  iintro HRa2
  iapply (wp_loadHalf c true 2 0 fullShare (acc m true 3 c) rfl rfl) $$ HRb2
  iintro HRb2
  iapply (wp_loadW m c 0 0 rfl rfl) $$ HW
  iintro HW
  rw [pay7_eq, pay8_eq]
  iapply Hk
  isplitl [HTa3]; · iexact HTa3
  isplitl [HSa]; · iexact HSa
  isplitl [HAL3]; · iexact HAL3
  isplitl [HTb3]; · iexact HTb3
  isplitl [HSb]; · iexact HSb
  isplitl [HARb2]; · iexact HARb2
  isplitl [HAL4]; · iexact HAL4
  isplitl [HW]; · iexact HW
  isplitl [HOw]; · iexact HOw
  isplitl [HDa0]; · iexact HDa0
  isplitl [HRa2]; · iexact HRa2
  iexact HRb2

/-- Part 11: the first row half of the product. -/
theorem wp_part11 (K : Dev nD × Fin 37 → ℕ) (c : Dev nD) {kk : (Σ' (_ : FVec F S1024x1024 .bf16) (_ : FVec F S1024x1024 .bf16), FVec F S1024x1024 .bf16) → Prog (TpuEff nD τ sig (Elt F) Λ₀ .tc) α} :
    iprop(records m K ∗ owns (c : Thread nD τ) wM fullShare (wS m c) ∗ owns (c : Thread nD τ) (bufO false) fullShare (acc m false 0 c) ∗
      owns (c : Thread nD τ) (bufO true) fullShare (acc m true 0 c) ∗ owns (c : Thread nD τ) (slot false 2) fullShare (acc m false 3 c) ∗
      owns (c : Thread nD τ) (slot true 2) fullShare (acc m true 3 c))
      ⊢ iprop(((halfDone m c false ∗ halfDone m c true ∗ owns (c : Thread nD τ) wM fullShare (wS m c) ∗
        owns (c : Thread nD τ) (slot false 2) fullShare (acc m false 3 c) ∗ owns (c : Thread nD τ) (slot true 2) fullShare (acc m true 3 c))
          -∗ run c (kk ⟨rowHalf 1 (acc m false 3 c), rowHalf 1 (acc m true 3 c), half14 m c⟩) Q) -∗ run c (onArgs (k0_part11 (F := F)) (rowHalf 0 (acc m false 3 c)) (rowHalf 0 (acc m true 3 c)) (k0_pay9 (wQ m c 0 0)) >>= kk) Q) := by
  rw [k0_part11_eq_skeleton]
  simp only [onArgs]
  unfold k0_part11_skel
  simp only [semSignalWord, semWaitWord, Prog.lift, Prog.bind_op, Prog.bind_ret, Prog.pure_eq_ret, Prog.bind_assoc]
  iintro ⟨#HR, HW, HOa, HOb, HRa2, HRb2⟩ Hk
  iapply (wp_loadW m c 1 0 rfl rfl) $$ HW
  iintro HW
  iapply (go_loadO c false (acc m false 0 c) rfl) $$ HOa
  iintro %_ HOa
  iapply (go_storeFirst m c false (acc m false 0 c) _ rfl rfl rfl) $$ HOa
  iintro HOa
  iapply (wp_loadW m c 0 1 rfl rfl) $$ HW
  iintro HW
  iapply (wp_loadW m c 1 1 rfl rfl) $$ HW
  iintro HW
  iapply (go_loadO c true (acc m true 0 c) rfl) $$ HOb
  iintro %_ HOb
  iapply (go_storeFirst m c true (acc m true 0 c) _ rfl rfl rfl) $$ HOb
  iintro HOb
  iapply (wp_loadHalf c false 2 1 fullShare (acc m false 3 c) rfl rfl) $$ HRa2
  iintro HRa2
  iapply (wp_loadHalf c true 2 1 fullShare (acc m true 3 c) rfl rfl) $$ HRb2
  iintro HRb2
  iapply (wp_loadW m c 0 0 rfl rfl) $$ HW
  iintro HW
  iapply (wp_loadW m c 1 0 rfl rfl) $$ HW
  iintro HW
  rw [pay12_eq, pay13_eq, half14_eq]
  iapply Hk
  isplitl [HOa]; · iexact HOa
  isplitl [HOb]; · iexact HOb
  isplitl [HW]; · iexact HW
  isplitl [HRa2]; · iexact HRa2
  iexact HRb2

/-- Part 12: the second row half of the product, and the stores of the device's own blocks. -/
theorem wp_part12 (K : Dev nD × Fin 37 → ℕ) (c : Dev nD) (v2 v7 : BitVec 32) {kk : PUnit → Prog (TpuEff nD τ sig (Elt F) Λ₀ .tc) α} :
    iprop(records m K ∗ halfDone m c false ∗ owns (c : Thread nD τ) wM fullShare (wS m c) ∗ halfDone m c true ∗ tok c (kO false 0) 0 ∗ anyAt c (blk vM c (col false)) ∗
      tok c (kO true 0) 0 ∗ anyAt c (blk vM c (col true)))
      ⊢ iprop(((owns (c : Thread nD τ) wM fullShare (wS m c) ∗ owns (c : Thread nD τ) (bufO false) fullShare.left (outv m false c) ∗ cr c (kO false 0) ∗
        owns (c : Thread nD τ) (bufO true) fullShare.left (outv m true c) ∗ cr c (kO true 0))
          -∗ run c (kk ⟨⟩) Q) -∗ run c (onArgs (k0_part12 (F := F)) c v2 v7 (rowHalf 1 (acc m false 3 c)) (rowHalf 1 (acc m true 3 c)) (half14 m c) >>= kk) Q) := by
  rw [k0_part12_eq_skeleton]
  simp only [onArgs]
  unfold k0_part12_skel
  simp only [semSignalWord, semWaitWord, Prog.lift, Prog.bind_op, Prog.bind_ret, Prog.pure_eq_ret, Prog.bind_assoc]
  iintro ⟨#HR, HOa, HW, HOb, HtOa0, HVa0, HtOb0, HVb0⟩ Hk
  iapply (go_loadDone m c false rfl) $$ HOa
  iintro %_ HOa
  iapply (go_storeSecond m c false _ (half14_out m c) rfl rfl) $$ HOa
  iintro HOa
  iapply (wp_loadW m c 0 1 rfl rfl) $$ HW
  iintro HW
  iapply (wp_loadW m c 1 1 rfl rfl) $$ HW
  iintro HW
  iapply (go_loadDone m c true rfl) $$ HOb
  iintro %_ HOb
  iapply (go_storeSecond m c true _ rfl rfl rfl) $$ HOb
  iintro HOb
  ihave HOa := (owns_split c (bufO false) (outv m false c)) $$ HOa
  icases HOa with ⟨HOLa, HORa⟩
  iapply (go_store m K c false 0 rfl rfl (blk_eq vM c (col false) (off_va0 c)) (P := owns (c : Thread nD τ) (bufO false) fullShare.right (outv m false c)) (D := anyAt c (blk vM c (col false))) rfl rfl) $$ [HtOa0 HORa HVa0]
  · isplitr; · iexact HR
    isplitl [HtOa0]; · iexact HtOa0
    isplitl [HORa]; · iexact HORa
    iexact HVa0
  iintro HcOa0
  ihave HOb := (owns_split c (bufO true) (outv m true c)) $$ HOb
  icases HOb with ⟨HOLb, HORb⟩
  iapply (go_store m K c true 0 rfl rfl (blk_eq vM c (col true) (off_vb0 c)) (P := owns (c : Thread nD τ) (bufO true) fullShare.right (outv m true c)) (D := anyAt c (blk vM c (col true))) rfl rfl) $$ [HtOb0 HORb HVb0]
  · isplitr; · iexact HR
    isplitl [HtOb0]; · iexact HtOb0
    isplitl [HORb]; · iexact HORb
    iexact HVb0
  iintro HcOb0
  iapply Hk
  isplitl [HW]; · iexact HW
  isplitl [HOLa]; · iexact HOLa
  isplitl [HcOa0]; · iexact HcOa0
  isplitl [HOLb]; · iexact HOLb
  iexact HcOb0

/-- Part 13: the first hop of the gathering. -/
theorem wp_part13 (K : Dev nD × Fin 37 → ℕ) (c : Dev nD) (v5 v7 : BitVec 32) {kk : (Σ' (_ : BitVec 32), BitVec 32) → Prog (TpuEff nD τ sig (Elt F) Λ₀ .tc) α} :
    iprop(records m K ∗ owns (c : Thread nD τ) (slot true 1) fullShare (acc m true 2 c) ∗ owns (c : Thread nD τ) (slot true 2) fullShare (acc m true 3 c) ∗
      tok c (kS false 3) 0 ∗ tok (nxt c) (kR false 3) 0 ∗ owns (c : Thread nD τ) (bufO false) fullShare.left (outv m false c) ∗
      anyAt (nxt c) (slot false 0) ∗ Owes c 6 ∗ owns (c : Thread nD τ) (slot false 1) fullShare (acc m false 2 c) ∗
      owns (c : Thread nD τ) (slot false 2) fullShare (acc m false 3 c) ∗ tok c (kS true 3) 0 ∗ tok (prv c) (kR true 3) 0 ∗
      owns (c : Thread nD τ) (bufO true) fullShare.left (outv m true c) ∗ anyAt (prv c) (slot true 0) ∗ At c (kS false 3) 0 ∗ cr c (kR false 3) ∗
      At c (kR false 3) 0 ∗ At c (kS true 3) 0)
      ⊢ iprop((∀ v w, (At c (kS false 3) 1 ∗ At c (kR false 3) 1 ∗ At c (kS true 3) 1 ∗ Owes c 4 ∗ anyAt (prv c) (slot true 1) ∗ anyAt (prv c) (slot true 2) ∗
        owns (c : Thread nD τ) (slot false 0) fullShare (outv m false (prv c)) ∗ owns (c : Thread nD τ) (bufO false) fullShare.left (outv m false c) ∗
        owns (c : Thread nD τ) (bufO true) fullShare.left (outv m true c))
          -∗ run c (kk ⟨v, w⟩) Q) -∗ run c (onArgs (k0_part13 (F := F)) c v5 v7 >>= kk) Q) := by
  rw [k0_part13_eq_skeleton]
  simp only [onArgs]
  unfold k0_part13_skel
  simp only [semSignalWord, semWaitWord, Prog.lift, Prog.bind_op, Prog.bind_ret, Prog.pure_eq_ret, Prog.bind_assoc]
  iintro ⟨#HR, HRb1, HRb2, HtSa3, HtRa3, HOLa, HDa0, HOw, HRa1, HRa2, HtSb3, HtRb3, HOLb, HDb0, HASa3, HcRa3, HARa3, HASb3⟩ Hk
  ihave HRb1 := (any_intro c (slot true 1) _) $$ HRb1
  ihave HRb2 := (any_intro c (slot true 2) _) $$ HRb2
  iapply (go_hop m K c false 3 5 6 rfl rfl rfl (dev_9 c) rfl rfl rfl rfl (P := owns (c : Thread nD τ) (bufO false) fullShare.left (outv m false c)) (D := anyAt (nxt c) (slot false 0)) (E := iprop(anyAt c (slot true 1) ∗ anyAt c (slot true 2))) rfl rfl rfl (c'' := (nxt c)) rfl) $$ [HtSa3 HtRa3 HOLa HDa0 HRb1 HRb2 HOw]
  · isplitr; · iexact HR
    isplitl [HtSa3]; · iexact HtSa3
    isplitl [HtRa3]; · iexact HtRa3
    isplitl [HOLa]; · iexact HOLa
    isplitl [HDa0]; · iexact HDa0
    isplitl [HRb1 HRb2]
    · isplitl [HRb1]; · iexact HRb1
      iexact HRb2
    iexact HOw
  iintro ⟨HcSa3, HOw⟩
  ihave HRa1 := (any_intro c (slot false 1) _) $$ HRa1
  ihave HRa2 := (any_intro c (slot false 2) _) $$ HRa2
  iapply (go_hop m K c true 3 4 5 rfl rfl rfl (dev_10 c) rfl rfl rfl rfl (P := owns (c : Thread nD τ) (bufO true) fullShare.left (outv m true c)) (D := anyAt (prv c) (slot true 0)) (E := iprop(anyAt c (slot false 1) ∗ anyAt c (slot false 2))) rfl rfl rfl (c'' := (prv c)) rfl) $$ [HtSb3 HtRb3 HOLb HDb0 HRa1 HRa2 HOw]
  · isplitr; · iexact HR
    isplitl [HtSb3]; · iexact HtSb3
    isplitl [HtRb3]; · iexact HtRb3
    isplitl [HOLb]; · iexact HOLb
    isplitl [HDb0]; · iexact HDb0
    isplitl [HRa1 HRa2]
    · isplitl [HRa1]; · iexact HRa1
      iexact HRa2
    iexact HOw
  iintro ⟨HcSb3, HOw⟩
  iapply (go_waitSend m K c false 3 4 (by decide) (by decide) rfl (credit_eq _) (P := owns (c : Thread nD τ) (bufO false) fullShare.left (outv m false c)) rfl) $$ [HcSa3 HOw HASa3]
  · isplitr; · iexact HR
    isplitl [HcSa3]; · iexact HcSa3
    isplitl [HOw]; · iexact HOw
    iexact HASa3
  iintro ⟨HOw, HASa3, HOLa⟩
  iapply (go_waitRecv m K c false 3 4 (by decide) (by decide) rfl (credit_eq _) (P := owns (c : Thread nD τ) (slot false 0) fullShare (outv m false (prv c))) (E := iprop(anyAt (prv c) (slot true 1) ∗ anyAt (prv c) (slot true 2))) rfl) $$ [HcRa3 HOw HARa3]
  · isplitr; · iexact HR
    isplitl [HcRa3]; · iexact HcRa3
    isplitl [HOw]; · iexact HOw
    iexact HARa3
  iintro ⟨HOw, HARa3, HRa0, ⟨HDb1, HDb2⟩⟩
  iapply (go_waitSend m K c true 3 4 (by decide) (by decide) rfl (credit_eq _) (P := owns (c : Thread nD τ) (bufO true) fullShare.left (outv m true c)) rfl) $$ [HcSb3 HOw HASb3]
  · isplitr; · iexact HR
    isplitl [HcSb3]; · iexact HcSb3
    isplitl [HOw]; · iexact HOw
    iexact HASb3
  iintro ⟨HOw, HASb3, HOLb⟩
  iapply Hk
  isplitl [HASa3]; · iexact HASa3
  isplitl [HARa3]; · iexact HARa3
  isplitl [HASb3]; · iexact HASb3
  isplitl [HOw]; · iexact HOw
  isplitl [HDb1]; · iexact HDb1
  isplitl [HDb2]; · iexact HDb2
  isplitl [HRa0]; · iexact HRa0
  isplitl [HOLa]; · iexact HOLa
  iexact HOLb

/-- Part 14: the stores of what it brought. -/
theorem wp_part14 (K : Dev nD × Fin 37 → ℕ) (c : Dev nD) (v2 v7 v w : BitVec 32) {kk : PUnit → Prog (TpuEff nD τ sig (Elt F) Λ₀ .tc) α} :
    iprop(records m K ∗ cr c (kR true 3) ∗ Owes c 4 ∗ At c (kR true 3) 0 ∗ owns (c : Thread nD τ) (slot false 0) fullShare (outv m false (prv c)) ∗ tok c (kO false 1) 0 ∗
      anyAt c (blk vM (prv c) (col false)) ∗ tok c (kO true 1) 0 ∗ anyAt c (blk vM (nxt c) (col true)))
      ⊢ iprop(((At c (kR true 3) 1 ∗ Owes c 4 ∗ anyAt (nxt c) (slot false 1) ∗ anyAt (nxt c) (slot false 2) ∗
        owns (c : Thread nD τ) (slot false 0) fullShare.left (outv m false (prv c)) ∗ cr c (kO false 1) ∗
        owns (c : Thread nD τ) (slot true 0) fullShare.left (outv m true (nxt c)) ∗ cr c (kO true 1))
          -∗ run c (kk ⟨⟩) Q) -∗ run c (onArgs (k0_part14 (F := F)) c v2 v7 v w >>= kk) Q) := by
  rw [k0_part14_eq_skeleton]
  simp only [onArgs]
  unfold k0_part14_skel
  simp only [semSignalWord, semWaitWord, Prog.lift, Prog.bind_op, Prog.bind_ret, Prog.pure_eq_ret, Prog.bind_assoc]
  iintro ⟨#HR, HcRb3, HOw, HARb3, HRa0, HtOa1, HVa1, HtOb1, HVb1⟩ Hk
  iapply (go_waitRecv m K c true 3 4 (by decide) (by decide) rfl (credit_eq _) (P := owns (c : Thread nD τ) (slot true 0) fullShare (outv m true (nxt c))) (E := iprop(anyAt (nxt c) (slot false 1) ∗ anyAt (nxt c) (slot false 2))) rfl) $$ [HcRb3 HOw HARb3]
  · isplitr; · iexact HR
    isplitl [HcRb3]; · iexact HcRb3
    isplitl [HOw]; · iexact HOw
    iexact HARb3
  iintro ⟨HOw, HARb3, HRb0, ⟨HDa1, HDa2⟩⟩
  ihave HRa0 := (owns_split c (slot false 0) (outv m false (prv c))) $$ HRa0
  icases HRa0 with ⟨HRLa0, HRRa0⟩
  iapply (go_store m K c false 1 rfl rfl (blk_eq vM (prv c) (col false) (off_va1 c)) (P := owns (c : Thread nD τ) (slot false 0) fullShare.right (outv m false (prv c))) (D := anyAt c (blk vM (prv c) (col false))) rfl rfl) $$ [HtOa1 HRRa0 HVa1]
  · isplitr; · iexact HR
    isplitl [HtOa1]; · iexact HtOa1
    isplitl [HRRa0]; · iexact HRRa0
    iexact HVa1
  iintro HcOa1
  ihave HRb0 := (owns_split c (slot true 0) (outv m true (nxt c))) $$ HRb0
  icases HRb0 with ⟨HRLb0, HRRb0⟩
  iapply (go_store m K c true 1 rfl rfl (blk_eq vM (nxt c) (col true) (off_vb1 c)) (P := owns (c : Thread nD τ) (slot true 0) fullShare.right (outv m true (nxt c))) (D := anyAt c (blk vM (nxt c) (col true))) rfl rfl) $$ [HtOb1 HRRb0 HVb1]
  · isplitr; · iexact HR
    isplitl [HtOb1]; · iexact HtOb1
    isplitl [HRRb0]; · iexact HRRb0
    iexact HVb1
  iintro HcOb1
  iapply Hk
  isplitl [HARb3]; · iexact HARb3
  isplitl [HOw]; · iexact HOw
  isplitl [HDa1]; · iexact HDa1
  isplitl [HDa2]; · iexact HDa2
  isplitl [HRLa0]; · iexact HRLa0
  isplitl [HcOa1]; · iexact HcOa1
  isplitl [HRLb0]; · iexact HRLb0
  iexact HcOb1

/-- Part 15: the second hop of the gathering starts. -/
theorem wp_part15 (K : Dev nD × Fin 37 → ℕ) (c : Dev nD) (v5 v7 : BitVec 32) {kk : PUnit → Prog (TpuEff nD τ sig (Elt F) Λ₀ .tc) α} :
    iprop(records m K ∗ tok c (kS false 4) 0 ∗ tok (nxt c) (kR false 4) 0 ∗ owns (c : Thread nD τ) (slot false 0) fullShare.left (outv m false (prv c)) ∗
      anyAt (nxt c) (slot false 1) ∗ Owes c 4 ∗ tok c (kS true 4) 0 ∗ tok (prv c) (kR true 4) 0 ∗
      owns (c : Thread nD τ) (slot true 0) fullShare.left (outv m true (nxt c)) ∗ anyAt (prv c) (slot true 1) ∗ At c (kS false 4) 0)
      ⊢ iprop(((At c (kS false 4) 1 ∗ Owes c 2 ∗ owns (c : Thread nD τ) (slot false 0) fullShare.left (outv m false (prv c)) ∗ cr c (kS true 4))
          -∗ run c (kk ⟨⟩) Q) -∗ run c (onArgs (k0_part15 (F := F)) c v5 v7 >>= kk) Q) := by
  rw [k0_part15_eq_skeleton]
  simp only [onArgs]
  unfold k0_part15_skel
  simp only [semSignalWord, semWaitWord, Prog.lift, Prog.bind_op, Prog.bind_ret, Prog.pure_eq_ret, Prog.bind_assoc]
  iintro ⟨#HR, HtSa4, HtRa4, HRLa0, HDa1, HOw, HtSb4, HtRb4, HRLb0, HDb1, HASa4⟩ Hk
  iapply (go_hop m K c false 4 3 4 rfl rfl rfl (dev_11 c) rfl rfl rfl rfl (P := owns (c : Thread nD τ) (slot false 0) fullShare.left (outv m false (prv c))) (D := anyAt (nxt c) (slot false 1)) (E := iprop(emp)) rfl rfl rfl (c'' := (nxt c)) rfl) $$ [HtSa4 HtRa4 HRLa0 HDa1 HOw]
  · isplitr; · iexact HR
    isplitl [HtSa4]; · iexact HtSa4
    isplitl [HtRa4]; · iexact HtRa4
    isplitl [HRLa0]; · iexact HRLa0
    isplitl [HDa1]; · iexact HDa1
    isplitr; · iempintro
    iexact HOw
  iintro ⟨HcSa4, HOw⟩
  iapply (go_hop m K c true 4 2 3 rfl rfl rfl (dev_12 c) rfl rfl rfl rfl (P := owns (c : Thread nD τ) (slot true 0) fullShare.left (outv m true (nxt c))) (D := anyAt (prv c) (slot true 1)) (E := iprop(emp)) rfl rfl rfl (c'' := (prv c)) rfl) $$ [HtSb4 HtRb4 HRLb0 HDb1 HOw]
  · isplitr; · iexact HR
    isplitl [HtSb4]; · iexact HtSb4
    isplitl [HtRb4]; · iexact HtRb4
    isplitl [HRLb0]; · iexact HRLb0
    isplitl [HDb1]; · iexact HDb1
    isplitr; · iempintro
    iexact HOw
  iintro ⟨HcSb4, HOw⟩
  iapply (go_waitSend m K c false 4 2 (by decide) (by decide) rfl (credit_eq _) (P := owns (c : Thread nD τ) (slot false 0) fullShare.left (outv m false (prv c))) rfl) $$ [HcSa4 HOw HASa4]
  · isplitr; · iexact HR
    isplitl [HcSa4]; · iexact HcSa4
    isplitl [HOw]; · iexact HOw
    iexact HASa4
  iintro ⟨HOw, HASa4, HRLa0⟩
  iapply Hk
  isplitl [HASa4]; · iexact HASa4
  isplitl [HOw]; · iexact HOw
  isplitl [HRLa0]; · iexact HRLa0
  iexact HcSb4

/-- Part 16: the waits for the second hop of the gathering. -/
theorem wp_part16 (K : Dev nD × Fin 37 → ℕ) (c : Dev nD) (v2 v5 : BitVec 32) {kk : PUnit → Prog (TpuEff nD τ sig (Elt F) Λ₀ .tc) α} :
    iprop(records m K ∗ cr c (kR false 4) ∗ Owes c 2 ∗ At c (kR false 4) 0 ∗ cr c (kS true 4) ∗ At c (kS true 4) 0 ∗ cr c (kR true 4) ∗ At c (kR true 4) 0)
      ⊢ iprop(((At c (kR false 4) 1 ∗ At c (kS true 4) 1 ∗ At c (kR true 4) 1 ∗ Owes c 2 ∗
        owns (c : Thread nD τ) (slot false 1) fullShare (outv m false (prv (prv c))) ∗
        owns (c : Thread nD τ) (slot true 1) fullShare (outv m true (nxt (nxt c))) ∗ owns (c : Thread nD τ) (slot true 0) fullShare.left (outv m true (nxt c)))
          -∗ run c (kk ⟨⟩) Q) -∗ run c (onArgs (k0_part16 (F := F)) v2 v5 >>= kk) Q) := by
  rw [k0_part16_eq_skeleton]
  simp only [onArgs]
  unfold k0_part16_skel
  simp only [semSignalWord, semWaitWord, Prog.lift, Prog.bind_op, Prog.bind_ret, Prog.pure_eq_ret, Prog.bind_assoc]
  iintro ⟨#HR, HcRa4, HOw, HARa4, HcSb4, HASb4, HcRb4, HARb4⟩ Hk
  iapply (go_waitRecv m K c false 4 2 (by decide) (by decide) rfl (credit_eq _) (P := owns (c : Thread nD τ) (slot false 1) fullShare (outv m false (prv (prv c)))) (E := iprop(emp)) rfl) $$ [HcRa4 HOw HARa4]
  · isplitr; · iexact HR
    isplitl [HcRa4]; · iexact HcRa4
    isplitl [HOw]; · iexact HOw
    iexact HARa4
  iintro ⟨HOw, HARa4, HRa1, _⟩
  iapply (go_waitSend m K c true 4 2 (by decide) (by decide) rfl (credit_eq _) (P := owns (c : Thread nD τ) (slot true 0) fullShare.left (outv m true (nxt c))) rfl) $$ [HcSb4 HOw HASb4]
  · isplitr; · iexact HR
    isplitl [HcSb4]; · iexact HcSb4
    isplitl [HOw]; · iexact HOw
    iexact HASb4
  iintro ⟨HOw, HASb4, HRLb0⟩
  iapply (go_waitRecv m K c true 4 2 (by decide) (by decide) rfl (credit_eq _) (P := owns (c : Thread nD τ) (slot true 1) fullShare (outv m true (nxt (nxt c)))) (E := iprop(emp)) rfl) $$ [HcRb4 HOw HARb4]
  · isplitr; · iexact HR
    isplitl [HcRb4]; · iexact HcRb4
    isplitl [HOw]; · iexact HOw
    iexact HARb4
  iintro ⟨HOw, HARb4, HRb1, _⟩
  iapply Hk
  isplitl [HARa4]; · iexact HARa4
  isplitl [HASb4]; · iexact HASb4
  isplitl [HARb4]; · iexact HARb4
  isplitl [HOw]; · iexact HOw
  isplitl [HRa1]; · iexact HRa1
  isplitl [HRb1]; · iexact HRb1
  iexact HRLb0

/-- Part 17: the stores of what it brought, and the start of the third hop. -/
theorem wp_part17 (K : Dev nD × Fin 37 → ℕ) (c : Dev nD) (v5 v7 : BitVec 32) {kk : PUnit → Prog (TpuEff nD τ sig (Elt F) Λ₀ .tc) α} :
    iprop(records m K ∗ owns (c : Thread nD τ) (slot false 1) fullShare (outv m false (prv (prv c))) ∗ tok c (kO false 2) 0 ∗ anyAt c (blk vM (prv (prv c)) (col false)) ∗
      owns (c : Thread nD τ) (slot true 1) fullShare (outv m true (nxt (nxt c))) ∗ tok c (kO true 2) 0 ∗ anyAt c (blk vM (nxt (nxt c)) (col true)) ∗
      tok c (kS false 5) 0 ∗ tok (nxt c) (kR false 5) 0 ∗ anyAt (nxt c) (slot false 2) ∗ Owes c 2)
      ⊢ iprop(((Owes c 1 ∗ cr c (kO false 2) ∗ owns (c : Thread nD τ) (slot true 1) fullShare.left (outv m true (nxt (nxt c))) ∗ cr c (kO true 2) ∗ cr c (kS false 5))
          -∗ run c (kk ⟨⟩) Q) -∗ run c (onArgs (k0_part17 (F := F)) c v5 v7 >>= kk) Q) := by
  rw [k0_part17_eq_skeleton]
  simp only [onArgs]
  unfold k0_part17_skel
  simp only [semSignalWord, semWaitWord, Prog.lift, Prog.bind_op, Prog.bind_ret, Prog.pure_eq_ret, Prog.bind_assoc]
  iintro ⟨#HR, HRa1, HtOa2, HVa2, HRb1, HtOb2, HVb2, HtSa5, HtRa5, HDa2, HOw⟩ Hk
  ihave HRa1 := (owns_split c (slot false 1) (outv m false (prv (prv c)))) $$ HRa1
  icases HRa1 with ⟨HRLa1, HRRa1⟩
  iapply (go_store m K c false 2 rfl rfl (blk_eq vM (prv (prv c)) (col false) (off_va2 c)) (P := owns (c : Thread nD τ) (slot false 1) fullShare.right (outv m false (prv (prv c)))) (D := anyAt c (blk vM (prv (prv c)) (col false))) rfl rfl) $$ [HtOa2 HRRa1 HVa2]
  · isplitr; · iexact HR
    isplitl [HtOa2]; · iexact HtOa2
    isplitl [HRRa1]; · iexact HRRa1
    iexact HVa2
  iintro HcOa2
  ihave HRb1 := (owns_split c (slot true 1) (outv m true (nxt (nxt c)))) $$ HRb1
  icases HRb1 with ⟨HRLb1, HRRb1⟩
  iapply (go_store m K c true 2 rfl rfl (blk_eq vM (nxt (nxt c)) (col true) (off_vb2 c)) (P := owns (c : Thread nD τ) (slot true 1) fullShare.right (outv m true (nxt (nxt c)))) (D := anyAt c (blk vM (nxt (nxt c)) (col true))) rfl rfl) $$ [HtOb2 HRRb1 HVb2]
  · isplitr; · iexact HR
    isplitl [HtOb2]; · iexact HtOb2
    isplitl [HRRb1]; · iexact HRRb1
    iexact HVb2
  iintro HcOb2
  iapply (go_hop m K c false 5 1 2 rfl rfl rfl (dev_13 c) rfl rfl rfl rfl (P := owns (c : Thread nD τ) (slot false 1) fullShare.left (outv m false (prv (prv c)))) (D := anyAt (nxt c) (slot false 2)) (E := iprop(emp)) rfl rfl rfl (c'' := (nxt c)) rfl) $$ [HtSa5 HtRa5 HRLa1 HDa2 HOw]
  · isplitr; · iexact HR
    isplitl [HtSa5]; · iexact HtSa5
    isplitl [HtRa5]; · iexact HtRa5
    isplitl [HRLa1]; · iexact HRLa1
    isplitl [HDa2]; · iexact HDa2
    isplitr; · iempintro
    iexact HOw
  iintro ⟨HcSa5, HOw⟩
  iapply Hk
  isplitl [HOw]; · iexact HOw
  isplitl [HcOa2]; · iexact HcOa2
  isplitl [HRLb1]; · iexact HRLb1
  isplitl [HcOb2]; · iexact HcOb2
  iexact HcSa5

/-- Part 18: the third hop of the gathering. -/
theorem wp_part18 (K : Dev nD × Fin 37 → ℕ) (c : Dev nD) (v5 v7 : BitVec 32) {kk : (Σ' (_ : BitVec 32), BitVec 32) → Prog (TpuEff nD τ sig (Elt F) Λ₀ .tc) α} :
    iprop(records m K ∗ tok c (kS true 5) 0 ∗ tok (prv c) (kR true 5) 0 ∗ owns (c : Thread nD τ) (slot true 1) fullShare.left (outv m true (nxt (nxt c))) ∗
      anyAt (prv c) (slot true 2) ∗ Owes c 1 ∗ cr c (kS false 5) ∗ At c (kS false 5) 0 ∗ cr c (kR false 5) ∗ At c (kR false 5) 0 ∗ At c (kS true 5) 0)
      ⊢ iprop((∀ v w, (At c (kS false 5) 1 ∗ At c (kR false 5) 1 ∗ At c (kS true 5) 1 ∗ Owes c 0 ∗
        owns (c : Thread nD τ) (slot false 2) fullShare (outv m false (prv (prv (prv c)))) ∗
        owns (c : Thread nD τ) (slot false 1) fullShare.left (outv m false (prv (prv c))) ∗
        owns (c : Thread nD τ) (slot true 1) fullShare.left (outv m true (nxt (nxt c))))
          -∗ run c (kk ⟨v, w⟩) Q) -∗ run c (onArgs (k0_part18 (F := F)) c v5 v7 >>= kk) Q) := by
  rw [k0_part18_eq_skeleton]
  simp only [onArgs]
  unfold k0_part18_skel
  simp only [semSignalWord, semWaitWord, Prog.lift, Prog.bind_op, Prog.bind_ret, Prog.pure_eq_ret, Prog.bind_assoc]
  iintro ⟨#HR, HtSb5, HtRb5, HRLb1, HDb2, HOw, HcSa5, HASa5, HcRa5, HARa5, HASb5⟩ Hk
  iapply (go_hop m K c true 5 0 1 rfl rfl rfl (dev_14 c) rfl rfl rfl rfl (P := owns (c : Thread nD τ) (slot true 1) fullShare.left (outv m true (nxt (nxt c)))) (D := anyAt (prv c) (slot true 2)) (E := iprop(emp)) rfl rfl rfl (c'' := (prv c)) rfl) $$ [HtSb5 HtRb5 HRLb1 HDb2 HOw]
  · isplitr; · iexact HR
    isplitl [HtSb5]; · iexact HtSb5
    isplitl [HtRb5]; · iexact HtRb5
    isplitl [HRLb1]; · iexact HRLb1
    isplitl [HDb2]; · iexact HDb2
    isplitr; · iempintro
    iexact HOw
  iintro ⟨HcSb5, HOw⟩
  iapply (go_waitSend m K c false 5 0 (by decide) (by decide) rfl (credit_eq _) (P := owns (c : Thread nD τ) (slot false 1) fullShare.left (outv m false (prv (prv c)))) rfl) $$ [HcSa5 HOw HASa5]
  · isplitr; · iexact HR
    isplitl [HcSa5]; · iexact HcSa5
    isplitl [HOw]; · iexact HOw
    iexact HASa5
  iintro ⟨HOw, HASa5, HRLa1⟩
  iapply (go_waitRecv m K c false 5 0 (by decide) (by decide) rfl (credit_eq _) (P := owns (c : Thread nD τ) (slot false 2) fullShare (outv m false (prv (prv (prv c))))) (E := iprop(emp)) rfl) $$ [HcRa5 HOw HARa5]
  · isplitr; · iexact HR
    isplitl [HcRa5]; · iexact HcRa5
    isplitl [HOw]; · iexact HOw
    iexact HARa5
  iintro ⟨HOw, HARa5, HRa2, _⟩
  iapply (go_waitSend m K c true 5 0 (by decide) (by decide) rfl (credit_eq _) (P := owns (c : Thread nD τ) (slot true 1) fullShare.left (outv m true (nxt (nxt c)))) rfl) $$ [HcSb5 HOw HASb5]
  · isplitr; · iexact HR
    isplitl [HcSb5]; · iexact HcSb5
    isplitl [HOw]; · iexact HOw
    iexact HASb5
  iintro ⟨HOw, HASb5, HRLb1⟩
  iapply Hk
  isplitl [HASa5]; · iexact HASa5
  isplitl [HARa5]; · iexact HARa5
  isplitl [HASb5]; · iexact HASb5
  isplitl [HOw]; · iexact HOw
  isplitl [HRa2]; · iexact HRa2
  isplitl [HRLa1]; · iexact HRLa1
  iexact HRLb1

/-- Part 19: the stores of what it brought. -/
theorem wp_part19 (K : Dev nD × Fin 37 → ℕ) (c : Dev nD) (v2 v w : BitVec 32) {kk : PUnit → Prog (TpuEff nD τ sig (Elt F) Λ₀ .tc) α} :
    iprop(records m K ∗ cr c (kR true 5) ∗ Owes c 0 ∗ At c (kR true 5) 0 ∗ owns (c : Thread nD τ) (slot false 2) fullShare (outv m false (prv (prv (prv c)))) ∗
      tok c (kO false 3) 0 ∗ anyAt c (blk vM (prv (prv (prv c))) (col false)) ∗ tok c (kO true 3) 0 ∗ anyAt c (blk vM (nxt (nxt (nxt c))) (col true)) ∗
      cr c (kO false 0) ∗ At c (kO false 0) 0)
      ⊢ iprop(((owns (c : Thread nD τ) (blk vM c (col false)) fullShare (outv m false c) ∗ At c (kO false 0) 1 ∗ At c (kR true 5) 1 ∗ Owes c 0 ∗
        owns (c : Thread nD τ) (bufO false) fullShare.right (outv m false c) ∗
        owns (c : Thread nD τ) (slot false 2) fullShare.left (outv m false (prv (prv (prv c)))) ∗ cr c (kO false 3) ∗
        owns (c : Thread nD τ) (slot true 2) fullShare.left (outv m true (nxt (nxt (nxt c)))) ∗ cr c (kO true 3))
          -∗ run c (kk ⟨⟩) Q) -∗ run c (onArgs (k0_part19 (F := F)) c v2 v w >>= kk) Q) := by
  rw [k0_part19_eq_skeleton]
  simp only [onArgs]
  unfold k0_part19_skel
  simp only [semSignalWord, semWaitWord, Prog.lift, Prog.bind_op, Prog.bind_ret, Prog.pure_eq_ret, Prog.bind_assoc]
  iintro ⟨#HR, HcRb5, HOw, HARb5, HRa2, HtOa3, HVa3, HtOb3, HVb3, HcOa0, HAOa0⟩ Hk
  iapply (go_waitRecv m K c true 5 0 (by decide) (by decide) rfl (credit_eq _) (P := owns (c : Thread nD τ) (slot true 2) fullShare (outv m true (nxt (nxt (nxt c))))) (E := iprop(emp)) rfl) $$ [HcRb5 HOw HARb5]
  · isplitr; · iexact HR
    isplitl [HcRb5]; · iexact HcRb5
    isplitl [HOw]; · iexact HOw
    iexact HARb5
  iintro ⟨HOw, HARb5, HRb2, _⟩
  ihave HRa2 := (owns_split c (slot false 2) (outv m false (prv (prv (prv c))))) $$ HRa2
  icases HRa2 with ⟨HRLa2, HRRa2⟩
  iapply (go_store m K c false 3 rfl rfl (blk_eq vM (prv (prv (prv c))) (col false) (off_va3 c)) (P := owns (c : Thread nD τ) (slot false 2) fullShare.right (outv m false (prv (prv (prv c))))) (D := anyAt c (blk vM (prv (prv (prv c))) (col false))) rfl rfl) $$ [HtOa3 HRRa2 HVa3]
  · isplitr; · iexact HR
    isplitl [HtOa3]; · iexact HtOa3
    isplitl [HRRa2]; · iexact HRRa2
    iexact HVa3
  iintro HcOa3
  ihave HRb2 := (owns_split c (slot true 2) (outv m true (nxt (nxt (nxt c))))) $$ HRb2
  icases HRb2 with ⟨HRLb2, HRRb2⟩
  iapply (go_store m K c true 3 rfl rfl (blk_eq vM (nxt (nxt (nxt c))) (col true) (off_vb3 c)) (P := owns (c : Thread nD τ) (slot true 2) fullShare.right (outv m true (nxt (nxt (nxt c))))) (D := anyAt c (blk vM (nxt (nxt (nxt c))) (col true))) rfl rfl) $$ [HtOb3 HRRb2 HVb3]
  · isplitr; · iexact HR
    isplitl [HtOb3]; · iexact HtOb3
    isplitl [HRRb2]; · iexact HRRb2
    iexact HVb3
  iintro HcOb3
  iapply (go_waitStore m K c false 0 0 (by decide) (by decide) rfl (credit_eq _) (P := owns (c : Thread nD τ) (blk vM c (col false)) fullShare (outv m false c)) (T := owns (c : Thread nD τ) (bufO false) fullShare.right (outv m false c)) rfl) $$ [HcOa0 HOw HAOa0]
  · isplitr; · iexact HR
    isplitl [HcOa0]; · iexact HcOa0
    isplitl [HOw]; · iexact HOw
    iexact HAOa0
  iintro ⟨HOw, HAOa0, HVa0, HORa⟩
  iapply Hk
  isplitl [HVa0]; · iexact HVa0
  isplitl [HAOa0]; · iexact HAOa0
  isplitl [HARb5]; · iexact HARb5
  isplitl [HOw]; · iexact HOw
  isplitl [HORa]; · iexact HORa
  isplitl [HRLa2]; · iexact HRLa2
  isplitl [HcOa3]; · iexact HcOa3
  isplitl [HRLb2]; · iexact HRLb2
  iexact HcOb3

/-- Part 20: the waits for the stores. -/
theorem wp_part20 (K : Dev nD × Fin 37 → ℕ) (c : Dev nD) {kk : PUnit → Prog (TpuEff nD τ sig (Elt F) Λ₀ .tc) α} :
    iprop(records m K ∗ cr c (kO true 0) ∗ Owes c 0 ∗ At c (kO true 0) 0 ∗ cr c (kO false 1) ∗ At c (kO false 1) 0 ∗ cr c (kO true 1) ∗ At c (kO true 1) 0 ∗
      cr c (kO false 2) ∗ At c (kO false 2) 0 ∗ cr c (kO true 2) ∗ At c (kO true 2) 0 ∗ cr c (kO false 3) ∗ At c (kO false 3) 0)
      ⊢ iprop(((owns (c : Thread nD τ) (blk vM (prv c) (col false)) fullShare (outv m false (prv c)) ∗
        owns (c : Thread nD τ) (blk vM (prv (prv c)) (col false)) fullShare (outv m false (prv (prv c))) ∗
        owns (c : Thread nD τ) (blk vM (prv (prv (prv c))) (col false)) fullShare (outv m false (prv (prv (prv c)))) ∗ At c (kO false 1) 1 ∗
        At c (kO false 2) 1 ∗ At c (kO false 3) 1 ∗ owns (c : Thread nD τ) (blk vM c (col true)) fullShare (outv m true c) ∗
        owns (c : Thread nD τ) (blk vM (nxt c) (col true)) fullShare (outv m true (nxt c)) ∗
        owns (c : Thread nD τ) (blk vM (nxt (nxt c)) (col true)) fullShare (outv m true (nxt (nxt c))) ∗ At c (kO true 0) 1 ∗ At c (kO true 1) 1 ∗
        At c (kO true 2) 1 ∗ Owes c 0 ∗ owns (c : Thread nD τ) (bufO true) fullShare.right (outv m true c) ∗
        owns (c : Thread nD τ) (slot false 0) fullShare.right (outv m false (prv c)) ∗
        owns (c : Thread nD τ) (slot true 0) fullShare.right (outv m true (nxt c)) ∗
        owns (c : Thread nD τ) (slot false 1) fullShare.right (outv m false (prv (prv c))) ∗
        owns (c : Thread nD τ) (slot true 1) fullShare.right (outv m true (nxt (nxt c))) ∗
        owns (c : Thread nD τ) (slot false 2) fullShare.right (outv m false (prv (prv (prv c)))))
          -∗ run c (kk ⟨⟩) Q) -∗ run c (onArgs (k0_part20 (F := F)) c >>= kk) Q) := by
  rw [k0_part20_eq_skeleton]
  simp only [onArgs]
  unfold k0_part20_skel
  simp only [semSignalWord, semWaitWord, Prog.lift, Prog.bind_op, Prog.bind_ret, Prog.pure_eq_ret, Prog.bind_assoc]
  iintro ⟨#HR, HcOb0, HOw, HAOb0, HcOa1, HAOa1, HcOb1, HAOb1, HcOa2, HAOa2, HcOb2, HAOb2, HcOa3, HAOa3⟩ Hk
  iapply (go_waitStore m K c true 0 0 (by decide) (by decide) rfl (credit_eq _) (P := owns (c : Thread nD τ) (blk vM c (col true)) fullShare (outv m true c)) (T := owns (c : Thread nD τ) (bufO true) fullShare.right (outv m true c)) rfl) $$ [HcOb0 HOw HAOb0]
  · isplitr; · iexact HR
    isplitl [HcOb0]; · iexact HcOb0
    isplitl [HOw]; · iexact HOw
    iexact HAOb0
  iintro ⟨HOw, HAOb0, HVb0, HORb⟩
  iapply (go_waitStore m K c false 1 0 (by decide) (by decide) rfl (credit_eq _) (P := owns (c : Thread nD τ) (blk vM (prv c) (col false)) fullShare (outv m false (prv c))) (T := owns (c : Thread nD τ) (slot false 0) fullShare.right (outv m false (prv c))) rfl) $$ [HcOa1 HOw HAOa1]
  · isplitr; · iexact HR
    isplitl [HcOa1]; · iexact HcOa1
    isplitl [HOw]; · iexact HOw
    iexact HAOa1
  iintro ⟨HOw, HAOa1, HVa1, HRRa0⟩
  iapply (go_waitStore m K c true 1 0 (by decide) (by decide) rfl (credit_eq _) (P := owns (c : Thread nD τ) (blk vM (nxt c) (col true)) fullShare (outv m true (nxt c))) (T := owns (c : Thread nD τ) (slot true 0) fullShare.right (outv m true (nxt c))) rfl) $$ [HcOb1 HOw HAOb1]
  · isplitr; · iexact HR
    isplitl [HcOb1]; · iexact HcOb1
    isplitl [HOw]; · iexact HOw
    iexact HAOb1
  iintro ⟨HOw, HAOb1, HVb1, HRRb0⟩
  iapply (go_waitStore m K c false 2 0 (by decide) (by decide) rfl (credit_eq _) (P := owns (c : Thread nD τ) (blk vM (prv (prv c)) (col false)) fullShare (outv m false (prv (prv c)))) (T := owns (c : Thread nD τ) (slot false 1) fullShare.right (outv m false (prv (prv c)))) rfl) $$ [HcOa2 HOw HAOa2]
  · isplitr; · iexact HR
    isplitl [HcOa2]; · iexact HcOa2
    isplitl [HOw]; · iexact HOw
    iexact HAOa2
  iintro ⟨HOw, HAOa2, HVa2, HRRa1⟩
  iapply (go_waitStore m K c true 2 0 (by decide) (by decide) rfl (credit_eq _) (P := owns (c : Thread nD τ) (blk vM (nxt (nxt c)) (col true)) fullShare (outv m true (nxt (nxt c)))) (T := owns (c : Thread nD τ) (slot true 1) fullShare.right (outv m true (nxt (nxt c)))) rfl) $$ [HcOb2 HOw HAOb2]
  · isplitr; · iexact HR
    isplitl [HcOb2]; · iexact HcOb2
    isplitl [HOw]; · iexact HOw
    iexact HAOb2
  iintro ⟨HOw, HAOb2, HVb2, HRRb1⟩
  iapply (go_waitStore m K c false 3 0 (by decide) (by decide) rfl (credit_eq _) (P := owns (c : Thread nD τ) (blk vM (prv (prv (prv c))) (col false)) fullShare (outv m false (prv (prv (prv c))))) (T := owns (c : Thread nD τ) (slot false 2) fullShare.right (outv m false (prv (prv (prv c))))) rfl) $$ [HcOa3 HOw HAOa3]
  · isplitr; · iexact HR
    isplitl [HcOa3]; · iexact HcOa3
    isplitl [HOw]; · iexact HOw
    iexact HAOa3
  iintro ⟨HOw, HAOa3, HVa3, HRRa2⟩
  iapply Hk
  isplitl [HVa1]; · iexact HVa1
  isplitl [HVa2]; · iexact HVa2
  isplitl [HVa3]; · iexact HVa3
  isplitl [HAOa1]; · iexact HAOa1
  isplitl [HAOa2]; · iexact HAOa2
  isplitl [HAOa3]; · iexact HAOa3
  isplitl [HVb0]; · iexact HVb0
  isplitl [HVb1]; · iexact HVb1
  isplitl [HVb2]; · iexact HVb2
  isplitl [HAOb0]; · iexact HAOb0
  isplitl [HAOb1]; · iexact HAOb1
  isplitl [HAOb2]; · iexact HAOb2
  isplitl [HOw]; · iexact HOw
  isplitl [HORb]; · iexact HORb
  isplitl [HRRa0]; · iexact HRRa0
  isplitl [HRRb0]; · iexact HRRb0
  isplitl [HRRa1]; · iexact HRRa1
  isplitl [HRRb1]; · iexact HRRb1
  iexact HRRa2

end Cert.Ring
-- ==== Proof.Body.lean ====
/-
# The kernel's body
-/
module

public import proofs.«01_k».proof.Proof.PartsB
public import Idealize.ShloMosaic.Lib.MemrefSat

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What hop `q` of stream `d` needs of its semaphores on device `c`: the two duties, the two cells at their start, and the credit of the receive. -/
def hopIn (c : Dev nD) (x : Bool × Fin 6) : sProp 𝕄 :=
  iprop(tok c (kS x.1 x.2) 0 ∗ tok (fwd x.1 c) (kR x.1 x.2) 0 ∗ At c (kS x.1 x.2) 0 ∗ At c (kR x.1 x.2) 0 ∗ cr c (kR x.1 x.2))
/-- What it leaves: the two cells after their one round. -/
def hopOut (c : Dev nD) (x : Bool × Fin 6) : sProp 𝕄 := iprop(At c (kS x.1 x.2) 1 ∗ At c (kR x.1 x.2) 1)
/-- What chunk `i` of stream `d` needs on device `c`: the duties of its load and its store, the store's cell, the block loaded and the block of the result. -/
def blkIn (c : Dev nD) (x : Bool × Fin 4) : sProp 𝕄 :=
  iprop(tok c (kL x.1 x.2) (rL x.2) ∗ tok c (kO x.1 x.2) 0 ∗ At c (kO x.1 x.2) 0 ∗ tP m c x.1 x.2.val
    ∗ anyAt c (blk vM ((bwd x.1)^[x.2.val] c) (col x.1)))
/-- What it leaves: the block loaded as it was, and the block of the result at the product. -/
def blkOut (c : Dev nD) (x : Bool × Fin 4) : sProp 𝕄 :=
  iprop(At c (kO x.1 x.2) 1 ∗ tP m c x.1 x.2.val
    ∗ owns (c : Thread nD τ) (blk vM ((bwd x.1)^[x.2.val] c) (col x.1)) fullShare (outv m x.1 ((bwd x.1)^[x.2.val] c)))
/-- What stream `d` needs besides: the cells of its loads, the duty at its neighbour's barrier, and its buffers. -/
def strIn (c : Dev nD) (d : Bool) : sProp 𝕄 :=
  iprop(At c (kL d 0) 0 ∗ At c (kL d 1) 0 ∗ dutyTok ER (cell (bwd d c) 0) 0 d ∗ anyAt c (bufS d) ∗ anyAt c (bufO d) ∗ slots d c)
/-- What it leaves. -/
def strOut (c : Dev nD) (d : Bool) : sProp 𝕄 :=
  iprop(At c (kL d 0) 1 ∗ At c (kL d 1) 3 ∗ anyAt c (bufS d) ∗ anyAt c (bufO d) ∗ slots d c)
/-- What the body needs. -/
def bodyIn (c : Dev nD) : sProp 𝕄 :=
  iprop(bigSep Finset.univ (hopIn c) ∗ bigSep Finset.univ (blkIn m c) ∗ strIn c false ∗ strIn c true
    ∗ At c 0 0 ∗ cred (tallyAt (cell c 0) () 2) ∗ owns (c : Thread nD τ) wM fullShare (wS m c) ∗ Owes c 14)
/-- What the body leaves. -/
def bodyOut (c : Dev nD) : sProp 𝕄 :=
  iprop(bigSep Finset.univ (hopOut c) ∗ bigSep Finset.univ (blkOut m c) ∗ strOut c false ∗ strOut c true
    ∗ At c 0 1 ∗ owns (c : Thread nD τ) wM fullShare (wS m c) ∗ Owes c 0)

/-- The hops one by one. -/
theorem sep_hops (Φ : Bool × Fin 6 → sProp 𝕄) :
    bigSep Finset.univ Φ = iprop(Φ (false, 0) ∗ Φ (false, 1) ∗ Φ (false, 2) ∗ Φ (false, 3) ∗ Φ (false, 4) ∗ Φ (false, 5) ∗ Φ (true, 0) ∗ Φ (true, 1) ∗ Φ (true, 2) ∗ Φ (true, 3) ∗ Φ (true, 4) ∗ Φ (true, 5)) :=
  bigSep_univ_eq_bigSepL [(false, 0), (false, 1), (false, 2), (false, 3), (false, 4), (false, 5), (true, 0), (true, 1), (true, 2), (true, 3), (true, 4), (true, 5)] (by decide) (by decide) Φ
/-- The chunks one by one. -/
theorem sep_blks (Φ : Bool × Fin 4 → sProp 𝕄) :
    bigSep Finset.univ Φ = iprop(Φ (false, 0) ∗ Φ (false, 1) ∗ Φ (false, 2) ∗ Φ (false, 3) ∗ Φ (true, 0) ∗ Φ (true, 1) ∗ Φ (true, 2) ∗ Φ (true, 3)) :=
  bigSep_univ_eq_bigSepL [(false, 0), (false, 1), (false, 2), (false, 3), (true, 0), (true, 1), (true, 2), (true, 3)] (by decide) (by decide) Φ

/-- What the hops need, spelled out. -/
theorem hops_in (c : Dev nD) : bigSep Finset.univ (hopIn (F := F) c)
    = iprop((tok c (kS false 0) 0 ∗ tok (nxt c) (kR false 0) 0 ∗ At c (kS false 0) 0 ∗ At c (kR false 0) 0 ∗ cr c (kR false 0))
        ∗ (tok c (kS false 1) 0 ∗ tok (nxt c) (kR false 1) 0 ∗ At c (kS false 1) 0 ∗ At c (kR false 1) 0 ∗ cr c (kR false 1))
        ∗ (tok c (kS false 2) 0 ∗ tok (nxt c) (kR false 2) 0 ∗ At c (kS false 2) 0 ∗ At c (kR false 2) 0 ∗ cr c (kR false 2))
        ∗ (tok c (kS false 3) 0 ∗ tok (nxt c) (kR false 3) 0 ∗ At c (kS false 3) 0 ∗ At c (kR false 3) 0 ∗ cr c (kR false 3))
        ∗ (tok c (kS false 4) 0 ∗ tok (nxt c) (kR false 4) 0 ∗ At c (kS false 4) 0 ∗ At c (kR false 4) 0 ∗ cr c (kR false 4))
        ∗ (tok c (kS false 5) 0 ∗ tok (nxt c) (kR false 5) 0 ∗ At c (kS false 5) 0 ∗ At c (kR false 5) 0 ∗ cr c (kR false 5))
        ∗ (tok c (kS true 0) 0 ∗ tok (prv c) (kR true 0) 0 ∗ At c (kS true 0) 0 ∗ At c (kR true 0) 0 ∗ cr c (kR true 0))
        ∗ (tok c (kS true 1) 0 ∗ tok (prv c) (kR true 1) 0 ∗ At c (kS true 1) 0 ∗ At c (kR true 1) 0 ∗ cr c (kR true 1))
        ∗ (tok c (kS true 2) 0 ∗ tok (prv c) (kR true 2) 0 ∗ At c (kS true 2) 0 ∗ At c (kR true 2) 0 ∗ cr c (kR true 2))
        ∗ (tok c (kS true 3) 0 ∗ tok (prv c) (kR true 3) 0 ∗ At c (kS true 3) 0 ∗ At c (kR true 3) 0 ∗ cr c (kR true 3))
        ∗ (tok c (kS true 4) 0 ∗ tok (prv c) (kR true 4) 0 ∗ At c (kS true 4) 0 ∗ At c (kR true 4) 0 ∗ cr c (kR true 4))
        ∗ (tok c (kS true 5) 0 ∗ tok (prv c) (kR true 5) 0 ∗ At c (kS true 5) 0 ∗ At c (kR true 5) 0 ∗ cr c (kR true 5))) := by
  rw [sep_hops]; rfl
/-- What the chunks need, spelled out. -/
theorem blks_in (c : Dev nD) : bigSep Finset.univ (blkIn m c)
    = iprop((tok c 1 0 ∗ tok c (kO false 0) 0 ∗ At c (kO false 0) 0 ∗ tP m c false 0 ∗ anyAt c (blk vM c (col false)))
        ∗ (tok c 3 0 ∗ tok c (kO false 1) 0 ∗ At c (kO false 1) 0 ∗ tP m c false 1 ∗ anyAt c (blk vM (prv c) (col false)))
        ∗ (tok c 3 1 ∗ tok c (kO false 2) 0 ∗ At c (kO false 2) 0 ∗ tP m c false 2 ∗ anyAt c (blk vM (prv (prv c)) (col false)))
        ∗ (tok c 3 2 ∗ tok c (kO false 3) 0 ∗ At c (kO false 3) 0 ∗ tP m c false 3 ∗ anyAt c (blk vM (prv (prv (prv c))) (col false)))
        ∗ (tok c 2 0 ∗ tok c (kO true 0) 0 ∗ At c (kO true 0) 0 ∗ tP m c true 0 ∗ anyAt c (blk vM c (col true)))
        ∗ (tok c 4 0 ∗ tok c (kO true 1) 0 ∗ At c (kO true 1) 0 ∗ tP m c true 1 ∗ anyAt c (blk vM (nxt c) (col true)))
        ∗ (tok c 4 1 ∗ tok c (kO true 2) 0 ∗ At c (kO true 2) 0 ∗ tP m c true 2 ∗ anyAt c (blk vM (nxt (nxt c)) (col true)))
        ∗ (tok c 4 2 ∗ tok c (kO true 3) 0 ∗ At c (kO true 3) 0 ∗ tP m c true 3 ∗ anyAt c (blk vM (nxt (nxt (nxt c))) (col true)))) := by
  rw [sep_blks]; rfl
/-- What stream `false` needs, spelled out. -/
theorem str_in_false (c : Dev nD) : strIn (F := F) c false = iprop(At c 1 0 ∗ At c 3 0 ∗ dutyTok ER (cell (prv c) 0) 0 false ∗ anyAt c (bufS false) ∗ anyAt c (bufO false) ∗ slots false c) := rfl
/-- What stream `true` needs, spelled out. -/
theorem str_in_true (c : Dev nD) : strIn (F := F) c true = iprop(At c 2 0 ∗ At c 4 0 ∗ dutyTok ER (cell (nxt c) 0) 0 true ∗ anyAt c (bufS true) ∗ anyAt c (bufO true) ∗ slots true c) := rfl
/-- What the hops leave, spelled out. -/
theorem hops_out (c : Dev nD) : bigSep Finset.univ (hopOut (F := F) c)
    = iprop((At c (kS false 0) 1 ∗ At c (kR false 0) 1)
        ∗ (At c (kS false 1) 1 ∗ At c (kR false 1) 1)
        ∗ (At c (kS false 2) 1 ∗ At c (kR false 2) 1)
        ∗ (At c (kS false 3) 1 ∗ At c (kR false 3) 1)
        ∗ (At c (kS false 4) 1 ∗ At c (kR false 4) 1)
        ∗ (At c (kS false 5) 1 ∗ At c (kR false 5) 1)
        ∗ (At c (kS true 0) 1 ∗ At c (kR true 0) 1)
        ∗ (At c (kS true 1) 1 ∗ At c (kR true 1) 1)
        ∗ (At c (kS true 2) 1 ∗ At c (kR true 2) 1)
        ∗ (At c (kS true 3) 1 ∗ At c (kR true 3) 1)
        ∗ (At c (kS true 4) 1 ∗ At c (kR true 4) 1)
        ∗ (At c (kS true 5) 1 ∗ At c (kR true 5) 1)) := by
  rw [sep_hops]; rfl
/-- What the chunks leave, spelled out. -/
theorem blks_out (c : Dev nD) : bigSep Finset.univ (blkOut m c)
    = iprop((At c (kO false 0) 1 ∗ tP m c false 0 ∗ owns (c : Thread nD τ) (blk vM c (col false)) fullShare (outv m false c))
        ∗ (At c (kO false 1) 1 ∗ tP m c false 1 ∗ owns (c : Thread nD τ) (blk vM (prv c) (col false)) fullShare (outv m false (prv c)))
        ∗ (At c (kO false 2) 1 ∗ tP m c false 2 ∗ owns (c : Thread nD τ) (blk vM (prv (prv c)) (col false)) fullShare (outv m false (prv (prv c))))
        ∗ (At c (kO false 3) 1 ∗ tP m c false 3 ∗ owns (c : Thread nD τ) (blk vM (prv (prv (prv c))) (col false)) fullShare (outv m false (prv (prv (prv c)))))
        ∗ (At c (kO true 0) 1 ∗ tP m c true 0 ∗ owns (c : Thread nD τ) (blk vM c (col true)) fullShare (outv m true c))
        ∗ (At c (kO true 1) 1 ∗ tP m c true 1 ∗ owns (c : Thread nD τ) (blk vM (nxt c) (col true)) fullShare (outv m true (nxt c)))
        ∗ (At c (kO true 2) 1 ∗ tP m c true 2 ∗ owns (c : Thread nD τ) (blk vM (nxt (nxt c)) (col true)) fullShare (outv m true (nxt (nxt c))))
        ∗ (At c (kO true 3) 1 ∗ tP m c true 3 ∗ owns (c : Thread nD τ) (blk vM (nxt (nxt (nxt c))) (col true)) fullShare (outv m true (nxt (nxt (nxt c)))))) := by
  rw [sep_blks]; rfl
/-- What stream `false` leaves, spelled out. -/
theorem str_out_false (c : Dev nD) : strOut (F := F) c false = iprop(At c 1 1 ∗ At c 3 3 ∗ anyAt c (bufS false) ∗ anyAt c (bufO false) ∗ anyAt c (slot false 0) ∗ anyAt c (slot false 1) ∗ anyAt c (slot false 2)) := rfl
/-- What stream `true` leaves, spelled out. -/
theorem str_out_true (c : Dev nD) : strOut (F := F) c true = iprop(At c 2 1 ∗ At c 4 3 ∗ anyAt c (bufS true) ∗ anyAt c (bufO true) ∗ anyAt c (slot true 0) ∗ anyAt c (slot true 1) ∗ anyAt c (slot true 2)) := rfl

omit [FloatOps F] in
/-- The two halves of a chunk-sized buffer make it whole. -/
theorem any_of_halves (c : Dev nD) {sp : Space} (M : Memref sig .tc sp S2048x1024 .bf16) (X : Vec F S2048x1024 .bf16) :
    iprop(owns (c : Thread nD τ) M fullShare.left X ∗ owns (c : Thread nD τ) M fullShare.right X) ⊢ anyAt (F := F) c M :=
  (owns_halves (c : Thread nD τ) M fullShare X).2.trans (any_intro c M X)

variable {α : Type} {Q : α → sProp (MT nD τ sig Unit (Elt F) ℕ UU ℕ)}

set_option maxHeartbeats 4000000 in
/-- The body, run: from what it needs it ends at what it leaves. -/
theorem sound_body (K : Dev nD × Fin 37 → ℕ) (c : Dev nD) {Q : PUnit → sProp 𝕄} :
    iprop(records m K ∗ bodyIn m c) ⊢ iprop((bodyOut m c -∗ Q ⟨⟩) -∗ run c (onArgs (cc0_body (F := F))) Q) := by
  rw [cc0_body_eq_skeleton]
  simp only [onArgs]
  unfold cc0_body_skel bodyIn
  rw [hops_in, blks_in, str_in_false, str_in_true]
  iintro ⟨#HR, ⟨⟨HtSa0, HtRa0, HASa0, HARa0, HcRa0⟩, ⟨HtSa1, HtRa1, HASa1, HARa1, HcRa1⟩, ⟨HtSa2, HtRa2, HASa2, HARa2, HcRa2⟩, ⟨HtSa3, HtRa3, HASa3, HARa3, HcRa3⟩, ⟨HtSa4, HtRa4, HASa4, HARa4, HcRa4⟩, ⟨HtSa5, HtRa5, HASa5, HARa5, HcRa5⟩, ⟨HtSb0, HtRb0, HASb0, HARb0, HcRb0⟩, ⟨HtSb1, HtRb1, HASb1, HARb1, HcRb1⟩, ⟨HtSb2, HtRb2, HASb2, HARb2, HcRb2⟩, ⟨HtSb3, HtRb3, HASb3, HARb3, HcRb3⟩, ⟨HtSb4, HtRb4, HASb4, HARb4, HcRb4⟩, ⟨HtSb5, HtRb5, HASb5, HARb5, HcRb5⟩⟩, ⟨⟨HtLa0, HtOa0, HAOa0, HTa0, HVa0⟩, ⟨HtLa1, HtOa1, HAOa1, HTa1, HVa1⟩, ⟨HtLa2, HtOa2, HAOa2, HTa2, HVa2⟩, ⟨HtLa3, HtOa3, HAOa3, HTa3, HVa3⟩, ⟨HtLb0, HtOb0, HAOb0, HTb0, HVb0⟩, ⟨HtLb1, HtOb1, HAOb1, HTb1, HVb1⟩, ⟨HtLb2, HtOb2, HAOb2, HTb2, HVb2⟩, ⟨HtLb3, HtOb3, HAOb3, HTb3, HVb3⟩⟩, ⟨HAL1, HAL3, HtBa, HSa, HOa, Hsla⟩, ⟨HAL2, HAL4, HtBb, HSb, HOb, Hslb⟩, HAB, HcB, HW, HOw⟩ Hk
  iapply (wp_part1 m K c) $$ [HAL1 HtLa0 HTa0 HOa HAL2 HtLb0 HTb0 HOb HAL3 HtLa1 HTa1 HSa]
  · isplitr; · iexact HR
    isplitl [HAL1]; · iexact HAL1
    isplitl [HtLa0]; · iexact HtLa0
    isplitl [HTa0]; · iexact HTa0
    isplitl [HOa]; · iexact HOa
    isplitl [HAL2]; · iexact HAL2
    isplitl [HtLb0]; · iexact HtLb0
    isplitl [HTb0]; · iexact HTb0
    isplitl [HOb]; · iexact HOb
    isplitl [HAL3]; · iexact HAL3
    isplitl [HtLa1]; · iexact HtLa1
    isplitl [HTa1]; · iexact HTa1
    iexact HSa
  iintro %v21 %v51 %v71 ⟨HAL1, HAL3, HAL2, HcL1, HcL2, HcL3⟩
  iapply (wp_part2 m K c _ _) $$ [HAL4 HtLb1 HTb1 HSb HOw HtBa Hsla HtBb Hslb HcB HAB HcL1 HAL1 HcL2 HAL2 HtSa0 HtRa0]
  · isplitr; · iexact HR
    isplitl [HAL4]; · iexact HAL4
    isplitl [HtLb1]; · iexact HtLb1
    isplitl [HTb1]; · iexact HTb1
    isplitl [HSb]; · iexact HSb
    isplitl [HOw]; · iexact HOw
    isplitl [HtBa]; · iexact HtBa
    isplitl [Hsla]; · iexact Hsla
    isplitl [HtBb]; · iexact HtBb
    isplitl [Hslb]; · iexact Hslb
    isplitl [HcB]; · iexact HcB
    isplitl [HAB]; · iexact HAB
    isplitl [HcL1]; · iexact HcL1
    isplitl [HAL1]; · iexact HAL1
    isplitl [HcL2]; · iexact HcL2
    isplitl [HAL2]; · iexact HAL2
    isplitl [HtSa0]; · iexact HtSa0
    iexact HtRa0
  iintro ⟨HTa0, HAL1, HTb0, HOb, HAL2, HAL4, HAB, HOw, HcL4, HDa1, HDa2, HDb0, HDb1, HDb2, HcSa0⟩
  iapply (wp_part3 m K c _ _) $$ [HtSb0 HtRb0 HOb HDb0 HOw HcSa0 HASa0 HcRa0 HARa0 HASb0 HcRb0 HARb0 HcL3 HAL3]
  · isplitr; · iexact HR
    isplitl [HtSb0]; · iexact HtSb0
    isplitl [HtRb0]; · iexact HtRb0
    isplitl [HOb]; · iexact HOb
    isplitl [HDb0]; · iexact HDb0
    isplitl [HOw]; · iexact HOw
    isplitl [HcSa0]; · iexact HcSa0
    isplitl [HASa0]; · iexact HASa0
    isplitl [HcRa0]; · iexact HcRa0
    isplitl [HARa0]; · iexact HARa0
    isplitl [HASb0]; · iexact HASb0
    isplitl [HcRb0]; · iexact HcRb0
    isplitl [HARb0]; · iexact HARb0
    isplitl [HcL3]; · iexact HcL3
    iexact HAL3
  iintro ⟨HTa1, HSa, HOa, HASa0, HARa0, HAL3, HOb, HASb0, HARb0, HOw, HRa0, HRb0⟩
  iapply (wp_part4 m K c _) $$ [HcL4 HOw HAL4 HRa0 HSa HRb0 HAL3 HtLa2 HTa2]
  · isplitr; · iexact HR
    isplitl [HcL4]; · iexact HcL4
    isplitl [HOw]; · iexact HOw
    isplitl [HAL4]; · iexact HAL4
    isplitl [HRa0]; · iexact HRa0
    isplitl [HSa]; · iexact HSa
    isplitl [HRb0]; · iexact HRb0
    isplitl [HAL3]; · iexact HAL3
    isplitl [HtLa2]; · iexact HtLa2
    iexact HTa2
  iintro ⟨HAL3, HTb1, HSb, HAL4, HOw, HcL3, HRa0, HRb0⟩
  iapply (wp_part5 m K c _ _) $$ [HSb HAL4 HtLb2 HTb2 HtSa1 HtRa1 HRa0 HDa1 HOw HtSb1 HtRb1 HRb0 HDb1]
  · isplitr; · iexact HR
    isplitl [HSb]; · iexact HSb
    isplitl [HAL4]; · iexact HAL4
    isplitl [HtLb2]; · iexact HtLb2
    isplitl [HTb2]; · iexact HTb2
    isplitl [HtSa1]; · iexact HtSa1
    isplitl [HtRa1]; · iexact HtRa1
    isplitl [HRa0]; · iexact HRa0
    isplitl [HDa1]; · iexact HDa1
    isplitl [HOw]; · iexact HOw
    isplitl [HtSb1]; · iexact HtSb1
    isplitl [HtRb1]; · iexact HtRb1
    isplitl [HRb0]; · iexact HRb0
    iexact HDb1
  iintro ⟨HAL4, HOw, HcL4, HcSa1, HcSb1⟩
  iapply (wp_part6 m K c _ _) $$ [HcSa1 HOw HASa1 HcRa1 HARa1 HcSb1 HASb1 HcRb1 HARb1]
  · isplitr; · iexact HR
    isplitl [HcSa1]; · iexact HcSa1
    isplitl [HOw]; · iexact HOw
    isplitl [HASa1]; · iexact HASa1
    isplitl [HcRa1]; · iexact HcRa1
    isplitl [HARa1]; · iexact HARa1
    isplitl [HcSb1]; · iexact HcSb1
    isplitl [HASb1]; · iexact HASb1
    isplitl [HcRb1]; · iexact HcRb1
    iexact HARb1
  iintro ⟨HASa1, HARa1, HASb1, HARb1, HOw, HRa0, HRb0, HRa1, HRb1⟩
  iapply (wp_part7 m K c _) $$ [HcL3 HOw HAL3 HcL4 HAL4 HRa1 HRb1]
  · isplitr; · iexact HR
    isplitl [HcL3]; · iexact HcL3
    isplitl [HOw]; · iexact HOw
    isplitl [HAL3]; · iexact HAL3
    isplitl [HcL4]; · iexact HcL4
    isplitl [HAL4]; · iexact HAL4
    isplitl [HRa1]; · iexact HRa1
    iexact HRb1
  iintro ⟨HTa2, HSa, HAL3, HTb2, HSb, HAL4, HOw, HRa1, HRb1⟩
  iapply (wp_part8 m K c _ _) $$ [HSa HAL3 HtLa3 HTa3 HSb HAL4 HtLb3 HTb3 HRb0 HtSa2 HtRa2 HRa1 HDa2 HOw HRa0 HtSb2 HtRb2 HRb1 HDb2]
  · isplitr; · iexact HR
    isplitl [HSa]; · iexact HSa
    isplitl [HAL3]; · iexact HAL3
    isplitl [HtLa3]; · iexact HtLa3
    isplitl [HTa3]; · iexact HTa3
    isplitl [HSb]; · iexact HSb
    isplitl [HAL4]; · iexact HAL4
    isplitl [HtLb3]; · iexact HtLb3
    isplitl [HTb3]; · iexact HTb3
    isplitl [HRb0]; · iexact HRb0
    isplitl [HtSa2]; · iexact HtSa2
    isplitl [HtRa2]; · iexact HtRa2
    isplitl [HRa1]; · iexact HRa1
    isplitl [HDa2]; · iexact HDa2
    isplitl [HOw]; · iexact HOw
    isplitl [HRa0]; · iexact HRa0
    isplitl [HtSb2]; · iexact HtSb2
    isplitl [HtRb2]; · iexact HtRb2
    isplitl [HRb1]; · iexact HRb1
    iexact HDb2
  iintro ⟨HAL3, HAL4, HOw, HcL3, HcL4, HcSa2, HcSb2⟩
  iapply (wp_part9 m K c _ _) $$ [HcSa2 HOw HASa2 HcRa2 HARa2 HcSb2 HASb2]
  · isplitr; · iexact HR
    isplitl [HcSa2]; · iexact HcSa2
    isplitl [HOw]; · iexact HOw
    isplitl [HASa2]; · iexact HASa2
    isplitl [HcRa2]; · iexact HcRa2
    isplitl [HARa2]; · iexact HARa2
    isplitl [HcSb2]; · iexact HcSb2
    iexact HASb2
  iintro ⟨HASa2, HARa2, HASb2, HOw, HDb0, HRa1, HRb1, HRa2⟩
  iapply (wp_part10 m K c) $$ [HcRb2 HOw HARb2 HcL3 HAL3 HcL4 HAL4 HRa2 HW]
  · isplitr; · iexact HR
    isplitl [HcRb2]; · iexact HcRb2
    isplitl [HOw]; · iexact HOw
    isplitl [HARb2]; · iexact HARb2
    isplitl [HcL3]; · iexact HcL3
    isplitl [HAL3]; · iexact HAL3
    isplitl [HcL4]; · iexact HcL4
    isplitl [HAL4]; · iexact HAL4
    isplitl [HRa2]; · iexact HRa2
    iexact HW
  iintro ⟨HTa3, HSa, HAL3, HTb3, HSb, HARb2, HAL4, HW, HOw, HDa0, HRa2, HRb2⟩
  iapply (wp_part11 m K c) $$ [HW HOa HOb HRa2 HRb2]
  · isplitr; · iexact HR
    isplitl [HW]; · iexact HW
    isplitl [HOa]; · iexact HOa
    isplitl [HOb]; · iexact HOb
    isplitl [HRa2]; · iexact HRa2
    iexact HRb2
  iintro ⟨HOa, HOb, HW, HRa2, HRb2⟩
  iapply (wp_part12 m K c _ _) $$ [HOa HW HOb HtOa0 HVa0 HtOb0 HVb0]
  · isplitr; · iexact HR
    isplitl [HOa]; · iexact HOa
    isplitl [HW]; · iexact HW
    isplitl [HOb]; · iexact HOb
    isplitl [HtOa0]; · iexact HtOa0
    isplitl [HVa0]; · iexact HVa0
    isplitl [HtOb0]; · iexact HtOb0
    iexact HVb0
  iintro ⟨HW, HOLa, HcOa0, HOLb, HcOb0⟩
  iapply (wp_part13 m K c _ _) $$ [HRb1 HRb2 HtSa3 HtRa3 HOLa HDa0 HOw HRa1 HRa2 HtSb3 HtRb3 HOLb HDb0 HASa3 HcRa3 HARa3 HASb3]
  · isplitr; · iexact HR
    isplitl [HRb1]; · iexact HRb1
    isplitl [HRb2]; · iexact HRb2
    isplitl [HtSa3]; · iexact HtSa3
    isplitl [HtRa3]; · iexact HtRa3
    isplitl [HOLa]; · iexact HOLa
    isplitl [HDa0]; · iexact HDa0
    isplitl [HOw]; · iexact HOw
    isplitl [HRa1]; · iexact HRa1
    isplitl [HRa2]; · iexact HRa2
    isplitl [HtSb3]; · iexact HtSb3
    isplitl [HtRb3]; · iexact HtRb3
    isplitl [HOLb]; · iexact HOLb
    isplitl [HDb0]; · iexact HDb0
    isplitl [HASa3]; · iexact HASa3
    isplitl [HcRa3]; · iexact HcRa3
    isplitl [HARa3]; · iexact HARa3
    iexact HASb3
  iintro %v13 %w13 ⟨HASa3, HARa3, HASb3, HOw, HDb1, HDb2, HRa0, HOLa, HOLb⟩
  iapply (wp_part14 m K c _ _ _ _) $$ [HcRb3 HOw HARb3 HRa0 HtOa1 HVa1 HtOb1 HVb1]
  · isplitr; · iexact HR
    isplitl [HcRb3]; · iexact HcRb3
    isplitl [HOw]; · iexact HOw
    isplitl [HARb3]; · iexact HARb3
    isplitl [HRa0]; · iexact HRa0
    isplitl [HtOa1]; · iexact HtOa1
    isplitl [HVa1]; · iexact HVa1
    isplitl [HtOb1]; · iexact HtOb1
    iexact HVb1
  iintro ⟨HARb3, HOw, HDa1, HDa2, HRLa0, HcOa1, HRLb0, HcOb1⟩
  iapply (wp_part15 m K c _ _) $$ [HtSa4 HtRa4 HRLa0 HDa1 HOw HtSb4 HtRb4 HRLb0 HDb1 HASa4]
  · isplitr; · iexact HR
    isplitl [HtSa4]; · iexact HtSa4
    isplitl [HtRa4]; · iexact HtRa4
    isplitl [HRLa0]; · iexact HRLa0
    isplitl [HDa1]; · iexact HDa1
    isplitl [HOw]; · iexact HOw
    isplitl [HtSb4]; · iexact HtSb4
    isplitl [HtRb4]; · iexact HtRb4
    isplitl [HRLb0]; · iexact HRLb0
    isplitl [HDb1]; · iexact HDb1
    iexact HASa4
  iintro ⟨HASa4, HOw, HRLa0, HcSb4⟩
  iapply (wp_part16 m K c _ _) $$ [HcRa4 HOw HARa4 HcSb4 HASb4 HcRb4 HARb4]
  · isplitr; · iexact HR
    isplitl [HcRa4]; · iexact HcRa4
    isplitl [HOw]; · iexact HOw
    isplitl [HARa4]; · iexact HARa4
    isplitl [HcSb4]; · iexact HcSb4
    isplitl [HASb4]; · iexact HASb4
    isplitl [HcRb4]; · iexact HcRb4
    iexact HARb4
  iintro ⟨HARa4, HASb4, HARb4, HOw, HRa1, HRb1, HRLb0⟩
  iapply (wp_part17 m K c _ _) $$ [HRa1 HtOa2 HVa2 HRb1 HtOb2 HVb2 HtSa5 HtRa5 HDa2 HOw]
  · isplitr; · iexact HR
    isplitl [HRa1]; · iexact HRa1
    isplitl [HtOa2]; · iexact HtOa2
    isplitl [HVa2]; · iexact HVa2
    isplitl [HRb1]; · iexact HRb1
    isplitl [HtOb2]; · iexact HtOb2
    isplitl [HVb2]; · iexact HVb2
    isplitl [HtSa5]; · iexact HtSa5
    isplitl [HtRa5]; · iexact HtRa5
    isplitl [HDa2]; · iexact HDa2
    iexact HOw
  iintro ⟨HOw, HcOa2, HRLb1, HcOb2, HcSa5⟩
  iapply (wp_part18 m K c _ _) $$ [HtSb5 HtRb5 HRLb1 HDb2 HOw HcSa5 HASa5 HcRa5 HARa5 HASb5]
  · isplitr; · iexact HR
    isplitl [HtSb5]; · iexact HtSb5
    isplitl [HtRb5]; · iexact HtRb5
    isplitl [HRLb1]; · iexact HRLb1
    isplitl [HDb2]; · iexact HDb2
    isplitl [HOw]; · iexact HOw
    isplitl [HcSa5]; · iexact HcSa5
    isplitl [HASa5]; · iexact HASa5
    isplitl [HcRa5]; · iexact HcRa5
    isplitl [HARa5]; · iexact HARa5
    iexact HASb5
  iintro %v18 %w18 ⟨HASa5, HARa5, HASb5, HOw, HRa2, HRLa1, HRLb1⟩
  iapply (wp_part19 m K c _ _ _) $$ [HcRb5 HOw HARb5 HRa2 HtOa3 HVa3 HtOb3 HVb3 HcOa0 HAOa0]
  · isplitr; · iexact HR
    isplitl [HcRb5]; · iexact HcRb5
    isplitl [HOw]; · iexact HOw
    isplitl [HARb5]; · iexact HARb5
    isplitl [HRa2]; · iexact HRa2
    isplitl [HtOa3]; · iexact HtOa3
    isplitl [HVa3]; · iexact HVa3
    isplitl [HtOb3]; · iexact HtOb3
    isplitl [HVb3]; · iexact HVb3
    isplitl [HcOa0]; · iexact HcOa0
    iexact HAOa0
  iintro ⟨HVa0, HAOa0, HARb5, HOw, HORa, HRLa2, HcOa3, HRLb2, HcOb3⟩
  iapply (wp_part20 m K c) $$ [HcOb0 HOw HAOb0 HcOa1 HAOa1 HcOb1 HAOb1 HcOa2 HAOa2 HcOb2 HAOb2 HcOa3 HAOa3]
  · isplitr; · iexact HR
    isplitl [HcOb0]; · iexact HcOb0
    isplitl [HOw]; · iexact HOw
    isplitl [HAOb0]; · iexact HAOb0
    isplitl [HcOa1]; · iexact HcOa1
    isplitl [HAOa1]; · iexact HAOa1
    isplitl [HcOb1]; · iexact HcOb1
    isplitl [HAOb1]; · iexact HAOb1
    isplitl [HcOa2]; · iexact HcOa2
    isplitl [HAOa2]; · iexact HAOa2
    isplitl [HcOb2]; · iexact HcOb2
    isplitl [HAOb2]; · iexact HAOb2
    isplitl [HcOa3]; · iexact HcOa3
    iexact HAOa3
  iintro ⟨HVa1, HVa2, HVa3, HAOa1, HAOa2, HAOa3, HVb0, HVb1, HVb2, HAOb0, HAOb1, HAOb2, HOw, HORb, HRRa0, HRRb0, HRRa1, HRRb1, HRRa2⟩
  simp only [Prog.lift, Prog.bind_op, Prog.bind_ret, Prog.pure_eq_ret]
  iapply (go_waitStore m K c true 3 0 (by decide) (by decide) rfl (credit_eq _) (P := owns (c : Thread nD τ) (blk vM (nxt (nxt (nxt c))) (col true)) fullShare (outv m true (nxt (nxt (nxt c))))) (T := owns (c : Thread nD τ) (slot true 2) fullShare.right (outv m true (nxt (nxt (nxt c))))) rfl) $$ [HcOb3 HOw HAOb3]
  · isplitr; · iexact HR
    isplitl [HcOb3]; · iexact HcOb3
    isplitl [HOw]; · iexact HOw
    iexact HAOb3
  iintro ⟨HOw, HAOb3, HVb3, HRRb2⟩
  unfold run
  rw [wp_ret]
  imodintro
  iapply Hk
  unfold bodyOut
  rw [hops_out, blks_out, str_out_false, str_out_true]
  ihave HSa := (any_intro c (bufS false) _) $$ HSa
  ihave HOa := (any_of_halves c (bufO false) _) $$ [HOLa HORa]
  · isplitl [HOLa]; · iexact HOLa
    iexact HORa
  ihave HRa0 := (any_of_halves c (slot false 0) _) $$ [HRLa0 HRRa0]
  · isplitl [HRLa0]; · iexact HRLa0
    iexact HRRa0
  ihave HRa1 := (any_of_halves c (slot false 1) _) $$ [HRLa1 HRRa1]
  · isplitl [HRLa1]; · iexact HRLa1
    iexact HRRa1
  ihave HRa2 := (any_of_halves c (slot false 2) _) $$ [HRLa2 HRRa2]
  · isplitl [HRLa2]; · iexact HRLa2
    iexact HRRa2
  ihave HSb := (any_intro c (bufS true) _) $$ HSb
  ihave HOb := (any_of_halves c (bufO true) _) $$ [HOLb HORb]
  · isplitl [HOLb]; · iexact HOLb
    iexact HORb
  ihave HRb0 := (any_of_halves c (slot true 0) _) $$ [HRLb0 HRRb0]
  · isplitl [HRLb0]; · iexact HRLb0
    iexact HRRb0
  ihave HRb1 := (any_of_halves c (slot true 1) _) $$ [HRLb1 HRRb1]
  · isplitl [HRLb1]; · iexact HRLb1
    iexact HRRb1
  ihave HRb2 := (any_of_halves c (slot true 2) _) $$ [HRLb2 HRRb2]
  · isplitl [HRLb2]; · iexact HRLb2
    iexact HRRb2
  isplitl [HASa0 HARa0 HASa1 HARa1 HASa2 HARa2 HASa3 HARa3 HASa4 HARa4 HASa5 HARa5 HASb0 HARb0 HASb1 HARb1 HASb2 HARb2 HASb3 HARb3 HASb4 HARb4 HASb5 HARb5]
  · isplitl [HASa0 HARa0]
    · isplitl [HASa0]; · iexact HASa0
      iexact HARa0
    isplitl [HASa1 HARa1]
    · isplitl [HASa1]; · iexact HASa1
      iexact HARa1
    isplitl [HASa2 HARa2]
    · isplitl [HASa2]; · iexact HASa2
      iexact HARa2
    isplitl [HASa3 HARa3]
    · isplitl [HASa3]; · iexact HASa3
      iexact HARa3
    isplitl [HASa4 HARa4]
    · isplitl [HASa4]; · iexact HASa4
      iexact HARa4
    isplitl [HASa5 HARa5]
    · isplitl [HASa5]; · iexact HASa5
      iexact HARa5
    isplitl [HASb0 HARb0]
    · isplitl [HASb0]; · iexact HASb0
      iexact HARb0
    isplitl [HASb1 HARb1]
    · isplitl [HASb1]; · iexact HASb1
      iexact HARb1
    isplitl [HASb2 HARb2]
    · isplitl [HASb2]; · iexact HASb2
      iexact HARb2
    isplitl [HASb3 HARb3]
    · isplitl [HASb3]; · iexact HASb3
      iexact HARb3
    isplitl [HASb4 HARb4]
    · isplitl [HASb4]; · iexact HASb4
      iexact HARb4
    isplitl [HASb5]; · iexact HASb5
    iexact HARb5
  isplitl [HAOa0 HTa0 HVa0 HAOa1 HTa1 HVa1 HAOa2 HTa2 HVa2 HAOa3 HTa3 HVa3 HAOb0 HTb0 HVb0 HAOb1 HTb1 HVb1 HAOb2 HTb2 HVb2 HAOb3 HTb3 HVb3]
  · isplitl [HAOa0 HTa0 HVa0]
    · isplitl [HAOa0]; · iexact HAOa0
      isplitl [HTa0]; · iexact HTa0
      iexact HVa0
    isplitl [HAOa1 HTa1 HVa1]
    · isplitl [HAOa1]; · iexact HAOa1
      isplitl [HTa1]; · iexact HTa1
      iexact HVa1
    isplitl [HAOa2 HTa2 HVa2]
    · isplitl [HAOa2]; · iexact HAOa2
      isplitl [HTa2]; · iexact HTa2
      iexact HVa2
    isplitl [HAOa3 HTa3 HVa3]
    · isplitl [HAOa3]; · iexact HAOa3
      isplitl [HTa3]; · iexact HTa3
      iexact HVa3
    isplitl [HAOb0 HTb0 HVb0]
    · isplitl [HAOb0]; · iexact HAOb0
      isplitl [HTb0]; · iexact HTb0
      iexact HVb0
    isplitl [HAOb1 HTb1 HVb1]
    · isplitl [HAOb1]; · iexact HAOb1
      isplitl [HTb1]; · iexact HTb1
      iexact HVb1
    isplitl [HAOb2 HTb2 HVb2]
    · isplitl [HAOb2]; · iexact HAOb2
      isplitl [HTb2]; · iexact HTb2
      iexact HVb2
    isplitl [HAOb3]; · iexact HAOb3
    isplitl [HTb3]; · iexact HTb3
    iexact HVb3
  isplitl [HAL1 HAL3 HSa HOa HRa0 HRa1 HRa2]
  · isplitl [HAL1]; · iexact HAL1
    isplitl [HAL3]; · iexact HAL3
    isplitl [HSa]; · iexact HSa
    isplitl [HOa]; · iexact HOa
    isplitl [HRa0]; · iexact HRa0
    isplitl [HRa1]; · iexact HRa1
    iexact HRa2
  isplitl [HAL2 HAL4 HSb HOb HRb0 HRb1 HRb2]
  · isplitl [HAL2]; · iexact HAL2
    isplitl [HAL4]; · iexact HAL4
    isplitl [HSb]; · iexact HSb
    isplitl [HOb]; · iexact HOb
    isplitl [HRb0]; · iexact HRb0
    isplitl [HRb1]; · iexact HRb1
    iexact HRb2
  isplitl [HAB]; · iexact HAB
  isplitl [HW]; · iexact HW
  iexact HOw

end Cert.Ring
-- ==== Proof.Setup.lean ====
/-
# Taking the buffers and the cells apart, and putting them together

The argument and the result are taken as eight blocks each, one for each stream and place; a buffer of three slots is
taken as its slots; the cells of a device are taken by stream and hop.
-/
module

public import proofs.«01_k».proof.Proof.Body
public import Idealize.ShloMosaic.Lib.Memref

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## Blocks of an array -/

omit [FloatOps F] in
/-- Blocks of different streams, or of different row chunks, are apart. -/
theorem blk_apart (σ : Bool → Fin 4 → Fin 4) (hσ : ∀ d, Function.Injective (σ d)) (x y : Bool × Fin 4) (h : x ≠ y) :
    Disjoint (blkR (σ x.1 x.2) (col x.1)).set (blkR (σ y.1 y.2) (col y.1)).set := by
  obtain ⟨d, i⟩ := x; obtain ⟨d', i'⟩ := y
  by_cases e : d = d'
  · subst e
    have hne : σ d i ≠ σ d i' := fun e => h (by rw [hσ d e])
    have hv : (σ d i).val ≠ (σ d i').val := fun e => hne (Fin.ext e)
    refine Rect.unit_disjoint (0 : Fin 2) ?_
    show 2048 * (σ d i).val + 2048 ≤ 2048 * (σ d i').val ∨ 2048 * (σ d i').val + 2048 ≤ 2048 * (σ d i).val
    omega
  · refine Rect.unit_disjoint (1 : Fin 2) ?_
    show 1024 * (col d).val + 1024 ≤ 1024 * (col d').val ∨ 1024 * (col d').val + 1024 ≤ 1024 * (col d).val
    cases d <;> cases d' <;> first | exact absurd rfl e | (left; decide) | (right; decide)

omit [FloatOps F] in
/-- The eight blocks are the whole array. -/
theorem blk_cover (σ : Bool → Fin 4 → Fin 4) (hσ : ∀ d, Function.Surjective (σ d)) :
    (Finset.univ : Finset (Bool × Fin 4)).biUnion (fun x => (blkR (σ x.1 x.2) (col x.1)).set) = Finset.univ := by
  refine Finset.eq_univ_iff_forall.mpr fun i => ?_
  have h0 : (i 0).val < 8192 := (i 0).isLt
  have h1 : (i 1).val < 2048 := (i 1).isLt
  obtain ⟨p, hp⟩ := hσ (decide (1024 ≤ (i 1).val)) ⟨(i 0).val / 2048, by omega⟩
  refine Finset.mem_biUnion.mpr ⟨(decide (1024 ≤ (i 1).val), p), Finset.mem_univ _, ?_⟩
  refine Rect.mem_set_unit.mpr fun a => ?_
  rw [hp]
  have hc : (col (decide (1024 ≤ (i 1).val))).val = if 1024 ≤ (i 1).val then 1 else 0 := by
    by_cases hh : 1024 ≤ (i 1).val
    · rw [if_pos hh, decide_eq_true hh]; rfl
    · rw [if_neg hh, decide_eq_false hh]; rfl
  match a with
  | ⟨0, _⟩ =>
    show 2048 * ((i 0).val / 2048) ≤ (i 0).val ∧ (i 0).val < 2048 * ((i 0).val / 2048) + 2048
    omega
  | ⟨1, _⟩ =>
    show 1024 * (col (decide (1024 ≤ (i 1).val))).val ≤ (i 1).val ∧ (i 1).val < 1024 * (col (decide (1024 ≤ (i 1).val))).val + 1024
    rw [hc]; split <;> omega

/-- The chunks a device adds on a stream are all different. -/
theorem ch_inj (c : Dev nD) (d : Bool) : Function.Injective fun i : Fin 4 => ch d i.val c := by revert c d; decide
/-- A device adds every chunk of a stream. -/
theorem ch_surj (c : Dev nD) (d : Bool) : Function.Surjective fun i : Fin 4 => ch d i.val c :=
  Finite.surjective_of_injective (ch_inj c d)
/-- The row chunks a device stores on a stream are all different. -/
theorem bwd_inj (c : Dev nD) (d : Bool) : Function.Injective fun i : Fin 4 => (bwd d)^[i.val] c := by revert c d; decide
/-- A device stores every row chunk of a stream. -/
theorem bwd_surj (c : Dev nD) (d : Bool) : Function.Surjective fun i : Fin 4 => (bwd d)^[i.val] c :=
  Finite.surjective_of_injective (bwd_inj c d)

set_option backward.proofsInPublic true in
/-- The product: every row chunk at what its device computes, each stream its column half. -/
def outFull : Vec F S8192x2048 .bf16 := fun i =>
  outv m (decide (1024 ≤ (i 1).val)) ⟨(i 0).val / 2048, by have h : (i 0).val < 8192 := (i 0).isLt; show (i 0).val / 2048 < 4; omega⟩
    (ix2 ⟨(i 0).val % 2048, Nat.mod_lt _ (by decide)⟩ ⟨(i 1).val % 1024, Nat.mod_lt _ (by decide)⟩)

/-- A block of the product is what its device computes for it. -/
theorem outFull_blk (d : Bool) (e : Dev nD) : (fun j => outFull m ((blkR e (col d)).emb j)) = outv m d e := by
  funext j
  have h0 : (j 0).val < 2048 := (j 0).isLt
  have h1 : (j 1).val < 1024 := (j 1).isLt
  have e0 : ((blkR e (col d)).emb j 0).val = 2048 * e.val + (j 0).val := by rw [Rect.emb_apply]; show _ + 1 * _ = _; rw [Nat.one_mul]; rfl
  have e1 : ((blkR e (col d)).emb j 1).val = 1024 * (col d).val + (j 1).val := by rw [Rect.emb_apply]; show _ + 1 * _ = _; rw [Nat.one_mul]; rfl
  have hd : decide (1024 ≤ ((blkR e (col d)).emb j 1).val) = d := by
    rw [e1]; cases d
    · exact decide_eq_false (by show ¬ 1024 ≤ 1024 * 0 + (j 1).val; omega)
    · exact decide_eq_true (by show 1024 ≤ 1024 * 1 + (j 1).val; omega)
  have hm1 : ((blkR e (col d)).emb j 1).val % 1024 = (j 1).val := by rw [e1]; omega
  have hm0 : ((blkR e (col d)).emb j 0).val % 2048 = (j 0).val := by rw [e0]; omega
  have hd0 : ((blkR e (col d)).emb j 0).val / 2048 = e.val := by rw [e0]; omega
  unfold outFull
  rw [hd]
  have hE : ∀ h, (⟨((blkR e (col d)).emb j 0).val / 2048, h⟩ : Dev nD) = e := fun h => Fin.ext hd0
  rw [hE]
  refine congrArg (outv m d e) ?_
  refine (congrArg₂ ix2 (Fin.ext hm0) (Fin.ext hm1)).trans (ValueIdx.eq_ix2 j).symm

/-- The argument whole is its blocks by stream and stage. -/
theorem arg_split (c : Dev nD) :
    (((c : Thread nD τ).loc main_arg0) ↦{fullShare} m ((c : Thread nD τ).loc main_arg0) : sProp 𝕄)
      ⊢ bigSep Finset.univ fun x : Bool × Fin 4 => tP m c x.1 x.2.val := by
  refine (Entails.of_eq (owns_whole (c : Thread nD τ) main_arg0 fullShare (m ((c : Thread nD τ).loc main_arg0))).symm).trans ?_
  exact owns_rects (c : Thread nD τ) tM fullShare (fun x : Bool × Fin 4 => blkR (ch x.1 x.2.val c) (col x.1)) (fun _ _ => rfl)
    (fun x y h => blk_apart (fun d i => ch d i.val c) (ch_inj c) x y h) (blk_cover (fun d i => ch d i.val c) (ch_surj c)) _
/-- The blocks by stream and stage are the argument whole. -/
theorem arg_join (c : Dev nD) :
    (bigSep Finset.univ fun x : Bool × Fin 4 => tP m c x.1 x.2.val)
      ⊢ (((c : Thread nD τ).loc main_arg0) ↦{fullShare} m ((c : Thread nD τ).loc main_arg0) : sProp 𝕄) := by
  refine BIBase.Entails.trans ?_ (Entails.of_eq (owns_whole (c : Thread nD τ) main_arg0 fullShare (m ((c : Thread nD τ).loc main_arg0))))
  exact owns_of_rects (c : Thread nD τ) tM fullShare (fun x : Bool × Fin 4 => blkR (ch x.1 x.2.val c) (col x.1)) (fun _ _ => rfl)
    (fun x y h => blk_apart (fun d i => ch d i.val c) (ch_inj c) x y h) (blk_cover (fun d i => ch d i.val c) (ch_surj c)) _
/-- The result array whole is its blocks by stream and place. -/
theorem res_split (c : Dev nD) (f : (main_v1 : Ref sig .tc).ty.Contents (Elt F)) :
    (((c : Thread nD τ).loc main_v1) ↦{fullShare} f : sProp 𝕄)
      ⊢ bigSep Finset.univ fun x : Bool × Fin 4 => anyAt c (blk vM ((bwd x.1)^[x.2.val] c) (col x.1)) := by
  refine (Entails.of_eq (owns_whole (c : Thread nD τ) main_v1 fullShare f).symm).trans ?_
  refine (owns_rects (c : Thread nD τ) vM fullShare (fun x : Bool × Fin 4 => blkR ((bwd x.1)^[x.2.val] c) (col x.1)) (fun _ _ => rfl)
    (fun x y h => blk_apart (fun d i => (bwd d)^[i.val] c) (bwd_inj c) x y h) (blk_cover (fun d i => (bwd d)^[i.val] c) (bwd_surj c)) _).trans ?_
  exact bigSep_mono fun x _ => any_intro c _ _
/-- The stored blocks are the result array at the product. -/
theorem res_join (c : Dev nD) :
    (bigSep Finset.univ fun x : Bool × Fin 4 =>
        owns (c : Thread nD τ) (blk vM ((bwd x.1)^[x.2.val] c) (col x.1)) fullShare (outv m x.1 ((bwd x.1)^[x.2.val] c)))
      ⊢ (((c : Thread nD τ).loc main_v1) ↦{fullShare} outFull m : sProp 𝕄) := by
  refine BIBase.Entails.trans ?_ (Entails.of_eq (owns_whole (c : Thread nD τ) main_v1 fullShare (outFull m)))
  refine BIBase.Entails.trans ?_ (owns_of_rects (c : Thread nD τ) vM fullShare (fun x : Bool × Fin 4 => blkR ((bwd x.1)^[x.2.val] c) (col x.1)) (fun _ _ => rfl)
    (fun x y h => blk_apart (fun d i => (bwd d)^[i.val] c) (bwd_inj c) x y h) (blk_cover (fun d i => (bwd d)^[i.val] c) (bwd_surj c)) (outFull m))
  exact bigSep_mono fun x _ => Entails.of_eq (congrArg (owns (c : Thread nD τ) _ fullShare) (outFull_blk m x.1 _).symm)

/-! ## Slots of a buffer -/

omit [FloatOps F] in
/-- Different slots are apart. -/
theorem slot_apart (h h' : Fin 3) (hh : h ≠ h') : Disjoint (slotR h).set (slotR h').set := by
  have hv : h.val ≠ h'.val := fun e => hh (Fin.ext e)
  refine Rect.unit_disjoint (0 : Fin 3) ?_
  show h.val + 1 ≤ h'.val ∨ h'.val + 1 ≤ h.val
  omega
omit [FloatOps F] in
/-- The three slots are the whole buffer. -/
theorem slot_cover : (Finset.univ : Finset (Fin 3)).biUnion (fun h => (slotR h).set) = Finset.univ := by
  refine Finset.eq_univ_iff_forall.mpr fun i => ?_
  have h1 : (i 1).val < 2048 := (i 1).isLt
  have h2 : (i 2).val < 1024 := (i 2).isLt
  refine Finset.mem_biUnion.mpr ⟨i 0, Finset.mem_univ _, Rect.mem_set_unit.mpr fun a => ?_⟩
  match a with
  | ⟨0, _⟩ => exact ⟨le_refl _, Nat.lt_succ_self _⟩
  | ⟨1, _⟩ => exact ⟨Nat.zero_le _, by show (i 1).val < 0 + 2048; omega⟩
  | ⟨2, _⟩ => exact ⟨Nat.zero_le _, by show (i 2).val < 0 + 1024; omega⟩

omit [FloatOps F] in
/-- One slot's rectangle of a buffer is the slot. -/
theorem slot_of_rect (c : Dev nD) (d : Bool) (h : Fin 3) (Y : S1x2048x1024.Idx → Elt F .bf16) :
    (owns (c : Thread nD τ) ((bufR d).slice (slotR h) (fun _ => rfl)) fullShare Y : sProp 𝕄) ⊢ anySlot (F := F) d h c := by
  unfold anySlot
  iintro H
  ihave H' := (show owns (c : Thread nD τ) ((bufR d).slice (slotR h) (fun _ => rfl)) fullShare Y
    ⊢ (iprop(∃ f : Buf (Elt F) (((bufR d).access (slotR h)).loc (c : Thread nD τ)), ⌜((bufR d).slice (slotR h) (fun _ => rfl)).view.read (Elt F) f = Y⌝
        ∗ (((bufR d).access (slotR h)).loc (c : Thread nD τ) ↦[((bufR d).view.slice (slotR h)).set]{fullShare} f)) : sProp 𝕄) from .rfl) $$ H
  icases H' with ⟨%f, %hf, H⟩
  iexists ((slot d h).view.read (Elt F) f)
  rw [slot_owns c d h fullShare _ (slotR h)]
  iexists f
  isplitr
  · ipureintro; rfl
  iexact H
omit [FloatOps F] in
/-- A slot is its rectangle of the buffer. -/
theorem slot_to_rect (c : Dev nD) (d : Bool) (h : Fin 3) :
    anySlot (F := F) d h c ⊢ (iprop(∃ Y : S1x2048x1024.Idx → Elt F .bf16, owns (c : Thread nD τ) ((bufR d).slice (slotR h) (fun _ => rfl)) fullShare Y) : sProp 𝕄) := by
  unfold anySlot
  iintro ⟨%X, H0⟩
  ihave H1 := (Entails.of_eq (slot_owns c d h fullShare X (slotR h))) $$ H0
  icases H1 with ⟨%f, %hf, H⟩
  iexists (((bufR d).slice (slotR h) (fun _ => rfl)).view.read (Elt F) f)
  unfold owns
  iexists f
  isplitr
  · ipureintro; rfl
  iexact H

omit [FloatOps F] in
/-- The three slots one by one. -/
theorem sep_slots (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A buffer of three slots is its slots. -/
theorem slots_split (c : Dev nD) (d : Bool) (X : S3x2048x1024.Idx → Elt F .bf16) :
    (owns (c : Thread nD τ) (bufR d) fullShare X : sProp 𝕄) ⊢ slots (F := F) d c := by
  refine (owns_rects (c : Thread nD τ) (bufR d) fullShare slotR (fun _ _ => rfl) slot_apart slot_cover X).trans ?_
  refine (bigSep_mono fun h _ => slot_of_rect c d h _).trans ?_
  rw [sep_slots]; unfold slots
  exact (show (iprop(anySlot (F := F) d 0 c ∗ anySlot (F := F) d 1 c ∗ anySlot (F := F) d 2 c) : sProp 𝕄)
    ⊢ iprop(anySlot (F := F) d 0 c ∗ anySlot (F := F) d 1 c ∗ anySlot (F := F) d 2 c) from .rfl)
/-- Its slots make the buffer. -/
theorem slots_join (c : Dev nD) (d : Bool) :
    slots (F := F) d c ⊢ (iprop(∃ X : S3x2048x1024.Idx → Elt F .bf16, owns (c : Thread nD τ) (bufR d) fullShare X) : sProp 𝕄) := by
  have h1 : slots (F := F) d c ⊢ bigSep Finset.univ fun h : Fin 3 =>
      (iprop(∃ Y : S1x2048x1024.Idx → Elt F .bf16, owns (c : Thread nD τ) ((bufR d).slice (slotR h) (fun _ => rfl)) fullShare Y) : sProp 𝕄) := by
    refine BIBase.Entails.trans ?_ (bigSep_mono fun h _ => slot_to_rect c d h)
    rw [sep_slots]; unfold slots
    exact Entails.of_eq rfl
  haveI hne : ∀ e, Nonempty (Elt F e) := inferInstance
  haveI : Nonempty (S1x2048x1024.Idx → Elt F .bf16) := ⟨fun _ => Classical.choice (hne _)⟩
  refine h1.trans ((BI.bigSep_exists_pi Finset.univ fun (h : Fin 3) (Y : S1x2048x1024.Idx → Elt F .bf16) =>
    (owns (c : Thread nD τ) ((bufR d).slice (slotR h) (fun _ => rfl)) fullShare Y : sProp 𝕄)).trans ?_)
  iintro ⟨%Y, H⟩
  have hY : ∀ h : Fin 3, Y h = fun j => (fun i : S3x2048x1024.Idx => Y (i 0) (ix3 ⟨0, Nat.one_pos⟩ (i 1) (i 2))) ((slotR h).emb j) := fun h => by
    funext j
    have j0 : (j 0).val < 1 := (j 0).isLt
    have e0 : (slotR h).emb j 0 = h := Fin.ext (by rw [Rect.emb_apply]; show h.val + 1 * (j 0).val = h.val; omega)
    have e1 : (slotR h).emb j 1 = j 1 := Fin.ext (by rw [Rect.emb_apply]; show 0 + 1 * (j 1).val = (j 1).val; omega)
    have e2 : (slotR h).emb j 2 = j 2 := Fin.ext (by rw [Rect.emb_apply]; show 0 + 1 * (j 2).val = (j 2).val; omega)
    show Y h j = Y ((slotR h).emb j 0) (ix3 ⟨0, Nat.one_pos⟩ ((slotR h).emb j 1) ((slotR h).emb j 2))
    rw [e0, e1, e2]
    refine congrArg (Y h) ((ValueIdx.eq_ix3 j).trans ?_)
    rw [show j 0 = (⟨0, Nat.one_pos⟩ : Fin 1) from Fin.ext (by show (j 0).val = 0; omega)]
    rfl
  iexists (fun i => Y (i 0) (ix3 ⟨0, Nat.one_pos⟩ (i 1) (i 2)))
  iapply (show (bigSep Finset.univ fun h : Fin 3 => owns (c : Thread nD τ) ((bufR d).slice (slotR h) (fun _ => rfl)) fullShare (Y h))
      ⊢ (owns (c : Thread nD τ) (bufR d) fullShare (fun i => Y (i 0) (ix3 ⟨0, Nat.one_pos⟩ (i 1) (i 2))) : sProp 𝕄) from
    (bigSep_mono fun h _ => Entails.of_eq (congrArg (owns (c : Thread nD τ) ((bufR d).slice (slotR h) (fun _ => rfl)) fullShare) (hY h))).trans
      (owns_of_rects (c : Thread nD τ) (bufR d) fullShare slotR (fun _ _ => rfl) slot_apart slot_cover
        fun i => Y (i 0) (ix3 ⟨0, Nat.one_pos⟩ (i 1) (i 2)))) $$ H

/-! ## The cells of a device -/

/-- Chains of conjuncts reassociate. -/
theorem sep_flat {M : Type _} [RA M] (P Q R : sProp M) : iprop((P ∗ Q) ∗ R) = iprop(P ∗ Q ∗ R) :=
  BI.equiv_iff.mp ⟨BI.sep_assoc, BI.sep_assoc'⟩

set_option maxHeartbeats 1000000 in
/-- The cells of a device by what they are for: the barrier, the hops' sends, the hops' receives, the stores, the loads. -/
theorem sep_cells (Φ : Fin 37 → sProp 𝕄) :
    bigSep Finset.univ Φ = iprop(Φ 0 ∗ bigSep Finset.univ (fun x : Bool × Fin 6 => Φ (kS x.1 x.2)) ∗ bigSep Finset.univ (fun x : Bool × Fin 6 => Φ (kR x.1 x.2))
      ∗ bigSep Finset.univ (fun x : Bool × Fin 4 => Φ (kO x.1 x.2)) ∗ Φ 1 ∗ Φ 3 ∗ Φ 2 ∗ Φ 4) := by
  rw [bigSep_univ_eq_bigSepL [0, 13, 14, 15, 25, 26, 27, 19, 20, 21, 31, 32, 33, 16, 17, 18, 28, 29, 30, 22, 23, 24, 34, 35, 36, 11, 5, 7, 9, 12, 6, 8, 10, 1, 3, 2, 4] (by decide) (by decide) Φ, sep_hops, sep_hops, sep_blks]
  simp only [sep_flat]
  rfl

end Cert.Ring
-- ==== Proof.Ghost.lean ====
/-
# Dealing out the cells, the tokens and the credits

At the launch every device gets the positions of its own cells, the tokens of the duties it pays (some of them the
neighbours' cells), and credit for what the neighbours owe its cells.
-/
module

public import proofs.«01_k».proof.Proof.Setup
public import proofs.«01_k».proof.Proof.Gen.KernelIdeal.Launch
public import Idealize.ShloMosaic.Lib.Pipeline.Launch
public import Idealize.ShloMosaic.Lib.Pipeline.Kit
public import Idealize.ShloMosaic.Lib.Rounds.Family

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The cells -/

/-- Two cells are one exactly when device and number agree. -/
theorem cell_iff {a b : Dev nD} {k l : Fin 37} : cell a k = cell b l ↔ a = b ∧ k = l := by
  constructor
  · intro h
    refine ⟨congrArg (fun g : GSem nD τ sig => g.1.1) h, ?_⟩
    have h2 : sem k = sem l := congrArg Prod.snd h
    rw [← kOf_sem k, h2, kOf_sem]
  · rintro ⟨rfl, rfl⟩; rfl

theorem sem_inj : Function.Injective sem := fun k l h => by rw [← kOf_sem k, h, kOf_sem]

theorem cell_inj : Function.Injective (fun p : Dev nD × Fin 37 => cell p.1 p.2) := by
  rintro ⟨a, k⟩ ⟨b, l⟩ h
  obtain ⟨h1, h2⟩ := cell_iff.mp h
  exact Prod.ext h1 h2

/-- Every device's cells. -/
def ringCells : Finset (GSem nD τ sig) := Finset.univ.map ⟨fun p : Dev nD × Fin 37 => cell p.1 p.2, cell_inj⟩

/-- The semaphores the launch leaves to the kernel: all but the signal semaphore. -/
def osem (i : Fin 36) : SemLoc sig := sem i.succ

theorem ownSemFacts : Pipeline.OwnSemFacts cfg0.spec osem := by decide

/-- A conjunction over the cells of a device, the first one taken off. -/
theorem sep_first (Φ : Fin 37 → sProp 𝕄) : bigSep Finset.univ Φ = iprop(Φ 0 ∗ bigSep Finset.univ fun i : Fin 36 => Φ i.succ) := by
  rw [Fin.univ_succ, Finset.cons_eq_insert, bigSep_insert (by simp), bigSep_map]
  rfl

/-! ## The tokens -/

/-- The duties at a device's cells. -/
abbrev J : Type := (Bool × Fin 6) ⊕ (Bool × Fin 6) ⊕ (Bool × Fin 4) ⊕ (Bool × Fin 4) ⊕ Bool

/-- Cell, round and name of a duty. -/
def duty : J → Fin 37 × ℕ × Bool
  | .inl x => (kS x.1 x.2, 0, false)
  | .inr (.inl x) => (kR x.1 x.2, 0, false)
  | .inr (.inr (.inl x)) => (kL x.1 x.2, rL x.2, false)
  | .inr (.inr (.inr (.inl x))) => (kO x.1 x.2, 0, false)
  | .inr (.inr (.inr (.inr d))) => (0, 0, d)

theorem duty_inj : Function.Injective duty := by decide

/-- The token of a duty of a device. -/
def tokOf (p : Dev nD × J) : GSem nD τ sig × ℕ × Bool := (cell p.1 (duty p.2).1, (duty p.2).2.1, (duty p.2).2.2)

theorem tokOf_inj : Function.Injective tokOf := by
  rintro ⟨a, x⟩ ⟨b, y⟩ h
  obtain ⟨h1, h2⟩ := cell_iff.mp (congrArg (fun t : GSem nD τ sig × ℕ × Bool => t.1) h)
  have h3 := congrArg (fun t : GSem nD τ sig × ℕ × Bool => t.2) h
  exact Prod.ext h1 (duty_inj (Prod.ext h2 h3))

def ringToks : Finset (GSem nD τ sig × ℕ × Bool) := Finset.univ.map ⟨tokOf, tokOf_inj⟩

/-- The tokens at a device's own cells. -/
def toks (c : Dev nD) : sProp 𝕄 :=
  iprop((bigSep Finset.univ fun x : Bool × Fin 6 => tok c (kS x.1 x.2) 0)
    ∗ (bigSep Finset.univ fun x : Bool × Fin 6 => tok c (kR x.1 x.2) 0)
    ∗ (bigSep Finset.univ fun x : Bool × Fin 4 => tok c (kL x.1 x.2) (rL x.2))
    ∗ (bigSep Finset.univ fun x : Bool × Fin 4 => tok c (kO x.1 x.2) 0)
    ∗ bigSep Finset.univ fun d : Bool => dutyTok ER (cell c 0) 0 d)

/-- The tokens of the duties a device pays. -/
def payToks (c : Dev nD) : sProp 𝕄 :=
  iprop((bigSep Finset.univ fun x : Bool × Fin 6 => tok c (kS x.1 x.2) 0)
    ∗ (bigSep Finset.univ fun x : Bool × Fin 6 => tok (fwd x.1 c) (kR x.1 x.2) 0)
    ∗ (bigSep Finset.univ fun x : Bool × Fin 4 => tok c (kL x.1 x.2) (rL x.2))
    ∗ (bigSep Finset.univ fun x : Bool × Fin 4 => tok c (kO x.1 x.2) 0)
    ∗ bigSep Finset.univ fun d : Bool => dutyTok ER (cell (bwd d c) 0) 0 d)

/-- A family over a second index, dealt around the ring in a way depending on that index. -/
theorem deal {A : Type} [Fintype A] (e : A → Dev nD ≃ Dev nD) (Φ : Dev nD → A → sProp 𝕄) :
    (bigSep Finset.univ fun c : Dev nD => bigSep Finset.univ fun x : A => Φ c x)
      = bigSep Finset.univ fun c : Dev nD => bigSep Finset.univ fun x : A => Φ (e x c) x := by
  rw [Pipeline.bigSep_univ_comm, Pipeline.bigSep_univ_comm (fun c x => Φ (e x c) x)]
  exact bigSep_congr fun x _ => bigSep_univ_equiv (e x) (fun c => Φ c x)

/-- The tokens dealt to those who pay. -/
theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', bigSep_sep', bigSep_sep']
  rw [deal (fun x : Bool × Fin 6 => ring x.1) (fun c x => (tok c (kR x.1 x.2) 0 : sProp 𝕄)),
    deal (fun d : Bool => (ring d).symm) (fun c d => (dutyTok ER (cell c 0) 0 d : sProp 𝕄))]
  rfl

/-- The launch's share for the ring. -/
def u₀ : UU :=
  (initOf (Pipeline.cells cfgs cellOf_inj) (Pipeline.launchToks cfgs cellOf_inj), initOf ringCells ringToks)

/-- What a device is dealt at first. -/
def G (c : Dev nD) : sProp 𝕄 :=
  iprop((bigSep Finset.univ fun k : Fin 37 => roundState ER (Rd m) (cell c k) 0)
    ∗ ((bigSep Finset.univ fun k : Fin 37 => atPos ER (cell c k) 0 ∅ 0) ∗ bigSep Finset.univ fun k : Fin 37 => reached ER (cell c k) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 37 => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, bigSep_univ_sum, bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

/-- The invariants and first round marks of all cells. -/
def base (K : Dev nD × Fin 37 → ℕ) : sProp 𝕄 :=
  iprop((bigSep Finset.univ fun p : Dev nD × Fin 37 => cellInv ER (Rd m) (K p) (cell p.1 p.2))
    ∗ bigSep Finset.univ fun p : Dev nD × Fin 37 => reached ER (cell p.1 p.2) 0)

instance base_persistent (K : Dev nD × Fin 37 → ℕ) : BI.Persistent (base (F := F) m K) := by unfold base; infer_instance

/-- A device's positions at its own cells and the tokens it pays with. -/
def linear (c : Dev nD) : sProp 𝕄 := iprop((bigSep Finset.univ fun k : Fin 37 => atPos ER (cell c k) 0 ∅ 0) ∗ payToks c)

/-- What a device has of the ring when its body starts. -/
def G' (c : Dev nD) : sProp 𝕄 := iprop(∃ K, base m K ∗ linear c)

/-- The signal semaphore is the only one outside the kernel's scope. -/
theorem unscoped_eq (c : Dev nD) : (unscopedSems0 c : sProp 𝕄) = semVal (cell c 0) 0 := by
  unfold unscopedSems0; rw [bigSep_eq_bigSepL_of_eq [sem 0] (by decide) (by decide)]; rfl

/-- All of a device's semaphores. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Fin 37 => semVal (cell c k) 0 : sProp 𝕄) := by
  rw [sep_first, unscoped_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ ((bigSep Finset.univ fun k : Fin 37 => atPos ER (cell c k) 0 ∅ 0) ∗ bigSep Finset.univ fun k : Fin 37 => reached ER (cell c k) 0) ∗ toks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 37 => semVal (cell c k) 0) ∗ bigSep Finset.univ fun k : Fin 37 => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Something kept is at hand for every member of a family. -/
theorem with_kept {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cell c k)))
          ∗ ((bigSep Finset.univ fun k : Fin 37 => atPos ER (cell c k) 0 ∅ 0) ∗ bigSep Finset.univ fun k : Fin 37 => reached ER (cell c k) 0) ∗ toks c) : sProp 𝕄)
      ⊢ bigSep Finset.univ (G' m) := by
  rw [bigSep_sep', bigSep_sep', bigSep_sep', toks_around,
    ← bigSep_univ_prod (fun p : Dev nD × Fin 37 => iprop(∃ κ : ℕ, cellInv ER (Rd m) κ (cell p.1 p.2))),
    ← bigSep_univ_prod (fun p : Dev nD × Fin 37 => (reached ER (cell p.1 p.2) 0 : sProp 𝕄))]
  iintro ⟨HI, ⟨Hat, #HR⟩, Htk⟩
  ihave HK := (BI.bigSep_exists_pi Finset.univ (fun (p : Dev nD × Fin 37) (κ : ℕ) => (cellInv ER (Rd m) κ (cell p.1 p.2) : sProp 𝕄))) $$ HI
  icases HK with ⟨%K, #HI⟩
  iapply (show iprop(base m K ∗ bigSep Finset.univ fun c : Dev nD => linear c) ⊢ (bigSep Finset.univ (G' m) : sProp 𝕄) from
    with_kept (R := base m K) fun c _ => by
      unfold G'; iintro ⟨HB, HL⟩; iexists K; isplitl [HB] <;> iassumption)
  isplitr
  · unfold base; isplitl; · iexact HI
    iexact HR
  · unfold linear
    iapply (Entails.of_eq (bigSep_sep' Finset.univ (fun c : Dev nD => bigSep Finset.univ fun k : Fin 37 => (atPos ER (cell c k) 0 ∅ 0 : sProp 𝕄)) payToks).symm)
    isplitl [Hat]; · iexact Hat
    iexact Htk

/-- The step all devices take together before the bodies start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What is owed, cell by cell. -/
theorem Ow_sum (e : Dev nD) (n : ℕ) (g : GSem nD τ sig) :
    Ow e n g () = ∑ i ∈ Finset.range n, if owed e i = g then owedN i else 0 := by
  induction n with
  | zero => rfl
  | succ n ih =>
    rw [Finset.sum_range_succ, ← ih]
    show Ow e n g () + tallyAt (owed e n) () (owedN n) g () = _
    rw [tallyAt_apply]
    congr 1
    by_cases h : owed e n = g
    · rw [if_pos ⟨h.symm, rfl⟩, if_pos h]
    · rw [if_neg (fun h' => h h'.1.symm), if_neg h]

/-- When a receive cell is paid, counted from the end. -/
def when (d : Bool) (q : Fin 6) : ℕ := if d then 10 - 2 * q.val else 11 - 2 * q.val

theorem when_lt (d : Bool) (q : Fin 6) : when d q < 12 := by revert d q; decide

theorem owed_recv (e : Dev nD) (i : ℕ) (hi : i < 14) (c : Dev nD) (d : Bool) (q : Fin 6) :
    owed e i = cell c (kR d q) ↔ i = when d q ∧ e = bwd d c := by
  interval_cases i <;> revert e c d q <;> decide

theorem owes_recv (e c : Dev nD) (d : Bool) (q : Fin 6) : Ow e 14 (cell c (kR d q)) () = if e = bwd d c then N else 0 := by
  rw [Ow_sum, Finset.sum_congr rfl (g := fun i => if i = when d q then (if e = bwd d c then N else 0) else 0),
    Finset.sum_ite_eq', if_pos (Finset.mem_range.mpr (lt_trans (when_lt d q) (by decide)))]
  intro i hi
  have h := owed_recv e i (Finset.mem_range.mp hi) c d q
  by_cases h1 : i = when d q
  · rw [if_pos h1]
    by_cases h2 : e = bwd d c
    · rw [if_pos (h.mpr ⟨h1, h2⟩), if_pos h2, owedN, if_neg (by have := when_lt d q; omega)]
    · rw [if_neg (fun h' => h2 (h.mp h').2), if_neg h2]
  · rw [if_neg (fun h' => h1 (h.mp h').1), if_neg h1]

theorem owed_bar (e : Dev nD) (i : ℕ) (hi : i < 12) (c : Dev nD) : owed e i ≠ cell c 0 := by
  interval_cases i <;> revert e c <;> decide

theorem owes_bar (e c : Dev nD) : Ow e 14 (cell c 0) () = (if nxt e = c then 1 else 0) + (if prv e = c then 1 else 0) := by
  rw [Ow_sum, Finset.sum_range_succ, Finset.sum_range_succ,
    Finset.sum_eq_zero fun i hi => if_neg (owed_bar e i (Finset.mem_range.mp hi) c), Nat.zero_add]
  revert e c; decide

theorem launch_bar (c : Dev nD) :
    tallyOn (cell c 0) (launchCredit (Pipeline.owing fun c => Ow c 14) 0 (cell c 0)) = (tallyAt (cell c 0) () 2 : CellTallies nD τ sig Unit) := by
  unfold tallyAt; refine congrArg _ (Finsupp.ext fun u => ?_); cases u
  rw [Pipeline.launchCredit_owing, Finsupp.single_eq_same, Finset.sum_congr rfl fun d _ => owes_bar d c]
  revert c; decide

theorem launch_recv (c : Dev nD) (d : Bool) (q : Fin 6) :
    tallyOn (cell c (kR d q)) (launchCredit (Pipeline.owing fun c => Ow c 14) 0 (cell c (kR d q))) = (tallyAt (cell c (kR d q)) () N : CellTallies nD τ sig Unit) := by
  unfold tallyAt; refine congrArg _ (Finsupp.ext fun u => ?_); cases u
  rw [Pipeline.launchCredit_owing, Finsupp.single_eq_same, Finset.sum_congr rfl fun e _ => owes_recv e c d q,
    Finset.sum_ite_eq' Finset.univ (bwd d c) fun _ => N, if_pos (Finset.mem_univ _)]

/-- The signal cell and the receive cells, out of all cells of a device. -/
theorem sep_some (Φ : Fin 37 → sProp 𝕄) :
    bigSep Finset.univ Φ ⊢ iprop(Φ 0 ∗ bigSep Finset.univ fun x : Bool × Fin 6 => Φ (kR x.1 x.2)) := by
  have h := Entails.of_eq (sep_cells Φ)
  iintro H
  ihave H1 := h $$ H
  icases H1 with ⟨H0, -, HR, -⟩
  isplitl [H0] <;> iassumption

/-- A device's credits: its two starting signals and its twelve receives. -/
theorem creds (c : Dev nD) :
    (Pipeline.launchCred (fun c => Ow c 14) c : sProp 𝕄)
      ⊢ iprop(cred (tallyAt (cell c 0) () 2) ∗ bigSep Finset.univ fun x : Bool × Fin 6 => cr c (kR x.1 x.2)) := by
  unfold Pipeline.launchCred
  refine (bigSep_subset (t := Finset.univ.map ⟨sem, sem_inj⟩) (Finset.subset_univ _)).trans ?_
  rw [bigSep_map]
  refine (sep_some _).trans (BIClass.sep_mono ?_ (bigSep_mono fun x _ => ?_))
  · exact Entails.of_eq (congrArg cred (launch_bar c))
  · exact Entails.of_eq (congrArg cred (launch_recv c x.1 x.2))

end Cert.Ring

end
-- ==== Proof.Launch.lean ====
/-
# The run of the whole program

The pipeline's one point runs the body; before it the launch has dealt every device its share of the ring, after it the
cells are closed and the buffers put together. The program then ends with every device's result at `outFull`, with its
arguments as they were and with every semaphore at zero.
-/
module

public import proofs.«01_k».proof.Proof.Ghost
public import proofs.«01_k».proof.Proof.Gen.KernelIdeal.Points
public import Idealize.ShloMosaic.Lib.Pipeline.CollectiveSegs

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## Buffers between the launch and the body -/

theorem any_of_0 (c : Dev nD) : (iprop(∃ f : Buf (Elt F) ((c : Thread nD τ).loc cc0_scratch0), ((c : Thread nD τ).loc cc0_scratch0) ↦{fullShare} f) : sProp 𝕄) ⊢ anyAt c (bufS false) := by
  iintro ⟨%f, H⟩
  iapply (any_intro c (Memref.whole cc0_scratch0) f)
  iapply (Entails.of_eq (owns_whole (c : Thread nD τ) cc0_scratch0 fullShare f).symm)
  iexact H
theorem any_to_0 (c : Dev nD) : anyAt c (bufS false) ⊢ (iprop(∃ f : Buf (Elt F) ((c : Thread nD τ).loc cc0_scratch0), ((c : Thread nD τ).loc cc0_scratch0) ↦{fullShare} f) : sProp 𝕄) := by
  unfold anyAt
  iintro ⟨%f, H⟩
  iexists f
  iapply (Entails.of_eq (owns_whole (c : Thread nD τ) cc0_scratch0 fullShare f))
  iexact H
theorem any_of_1 (c : Dev nD) : (iprop(∃ f : Buf (Elt F) ((c : Thread nD τ).loc cc0_scratch1), ((c : Thread nD τ).loc cc0_scratch1) ↦{fullShare} f) : sProp 𝕄) ⊢ anyAt c (bufS true) := by
  iintro ⟨%f, H⟩
  iapply (any_intro c (Memref.whole cc0_scratch1) f)
  iapply (Entails.of_eq (owns_whole (c : Thread nD τ) cc0_scratch1 fullShare f).symm)
  iexact H
theorem any_to_1 (c : Dev nD) : anyAt c (bufS true) ⊢ (iprop(∃ f : Buf (Elt F) ((c : Thread nD τ).loc cc0_scratch1), ((c : Thread nD τ).loc cc0_scratch1) ↦{fullShare} f) : sProp 𝕄) := by
  unfold anyAt
  iintro ⟨%f, H⟩
  iexists f
  iapply (Entails.of_eq (owns_whole (c : Thread nD τ) cc0_scratch1 fullShare f))
  iexact H
theorem any_of_4 (c : Dev nD) : (iprop(∃ f : Buf (Elt F) ((c : Thread nD τ).loc cc0_scratch4), ((c : Thread nD τ).loc cc0_scratch4) ↦{fullShare} f) : sProp 𝕄) ⊢ anyAt c (bufO false) := by
  iintro ⟨%f, H⟩
  iapply (any_intro c (Memref.whole cc0_scratch4) f)
  iapply (Entails.of_eq (owns_whole (c : Thread nD τ) cc0_scratch4 fullShare f).symm)
  iexact H
theorem any_to_4 (c : Dev nD) : anyAt c (bufO false) ⊢ (iprop(∃ f : Buf (Elt F) ((c : Thread nD τ).loc cc0_scratch4), ((c : Thread nD τ).loc cc0_scratch4) ↦{fullShare} f) : sProp 𝕄) := by
  unfold anyAt
  iintro ⟨%f, H⟩
  iexists f
  iapply (Entails.of_eq (owns_whole (c : Thread nD τ) cc0_scratch4 fullShare f))
  iexact H
theorem any_of_5 (c : Dev nD) : (iprop(∃ f : Buf (Elt F) ((c : Thread nD τ).loc cc0_scratch5), ((c : Thread nD τ).loc cc0_scratch5) ↦{fullShare} f) : sProp 𝕄) ⊢ anyAt c (bufO true) := by
  iintro ⟨%f, H⟩
  iapply (any_intro c (Memref.whole cc0_scratch5) f)
  iapply (Entails.of_eq (owns_whole (c : Thread nD τ) cc0_scratch5 fullShare f).symm)
  iexact H
theorem any_to_5 (c : Dev nD) : anyAt c (bufO true) ⊢ (iprop(∃ f : Buf (Elt F) ((c : Thread nD τ).loc cc0_scratch5), ((c : Thread nD τ).loc cc0_scratch5) ↦{fullShare} f) : sProp 𝕄) := by
  unfold anyAt
  iintro ⟨%f, H⟩
  iexists f
  iapply (Entails.of_eq (owns_whole (c : Thread nD τ) cc0_scratch5 fullShare f))
  iexact H
theorem any_of_2 (c : Dev nD) : (iprop(∃ f : Buf (Elt F) ((c : Thread nD τ).loc cc0_scratch2), ((c : Thread nD τ).loc cc0_scratch2) ↦{fullShare} f) : sProp 𝕄) ⊢ slots false c := by
  iintro ⟨%f, H⟩
  iapply (slots_split c false f)
  iapply (Entails.of_eq (owns_whole (c : Thread nD τ) cc0_scratch2 fullShare f).symm)
  iexact H
theorem any_to_2 (c : Dev nD) : slots false c ⊢ (iprop(∃ f : Buf (Elt F) ((c : Thread nD τ).loc cc0_scratch2), ((c : Thread nD τ).loc cc0_scratch2) ↦{fullShare} f) : sProp 𝕄) := by
  iintro H
  ihave H1 := (slots_join c false) $$ H
  icases H1 with ⟨%f, H2⟩
  iexists f
  iapply (Entails.of_eq (owns_whole (c : Thread nD τ) cc0_scratch2 fullShare f))
  iexact H2
theorem any_of_3 (c : Dev nD) : (iprop(∃ f : Buf (Elt F) ((c : Thread nD τ).loc cc0_scratch3), ((c : Thread nD τ).loc cc0_scratch3) ↦{fullShare} f) : sProp 𝕄) ⊢ slots true c := by
  iintro ⟨%f, H⟩
  iapply (slots_split c true f)
  iapply (Entails.of_eq (owns_whole (c : Thread nD τ) cc0_scratch3 fullShare f).symm)
  iexact H
theorem any_to_3 (c : Dev nD) : slots true c ⊢ (iprop(∃ f : Buf (Elt F) ((c : Thread nD τ).loc cc0_scratch3), ((c : Thread nD τ).loc cc0_scratch3) ↦{fullShare} f) : sProp 𝕄) := by
  iintro H
  ihave H1 := (slots_join c true) $$ H
  icases H1 with ⟨%f, H2⟩
  iexists f
  iapply (Entails.of_eq (owns_whole (c : Thread nD τ) cc0_scratch3 fullShare f))
  iexact H2

/-! ## Before the body -/

theorem hops_from (c : Dev nD) :
    iprop((bigSep Finset.univ fun x : Bool × Fin 6 => tok c (kS x.1 x.2) 0)
      ∗ (bigSep Finset.univ fun x : Bool × Fin 6 => tok (fwd x.1 c) (kR x.1 x.2) 0)
      ∗ (bigSep Finset.univ fun x : Bool × Fin 6 => At c (kS x.1 x.2) 0)
      ∗ (bigSep Finset.univ fun x : Bool × Fin 6 => At c (kR x.1 x.2) 0)
      ∗ bigSep Finset.univ fun x : Bool × Fin 6 => cr c (kR x.1 x.2))
      ⊢ (bigSep Finset.univ (hopIn c) : sProp 𝕄) := by
  rw [← bigSep_sep', ← bigSep_sep', ← bigSep_sep', ← bigSep_sep']
  exact bigSep_mono fun x _ => by unfold hopIn; exact BI.Entails.refl _

theorem blks_from (c : Dev nD) :
    iprop((bigSep Finset.univ fun x : Bool × Fin 4 => tok c (kL x.1 x.2) (rL x.2))
      ∗ (bigSep Finset.univ fun x : Bool × Fin 4 => tok c (kO x.1 x.2) 0)
      ∗ (bigSep Finset.univ fun x : Bool × Fin 4 => At c (kO x.1 x.2) 0)
      ∗ (bigSep Finset.univ fun x : Bool × Fin 4 => tP m c x.1 x.2.val)
      ∗ bigSep Finset.univ fun x : Bool × Fin 4 => anyAt c (blk vM ((bwd x.1)^[x.2.val] c) (col x.1)))
      ⊢ (bigSep Finset.univ (blkIn m c) : sProp 𝕄) := by
  rw [← bigSep_sep', ← bigSep_sep', ← bigSep_sep', ← bigSep_sep']
  exact bigSep_mono fun x _ => by unfold blkIn; exact BI.Entails.refl _

theorem hops_done (c : Dev nD) :
    (bigSep Finset.univ (hopOut c) : sProp 𝕄)
      ⊢ iprop((bigSep Finset.univ fun x : Bool × Fin 6 => At c (kS x.1 x.2) 1)
        ∗ bigSep Finset.univ fun x : Bool × Fin 6 => At c (kR x.1 x.2) 1) := by
  rw [← bigSep_sep']
  exact bigSep_mono fun x _ => by unfold hopOut; exact BI.Entails.refl _

theorem blks_done (c : Dev nD) :
    (bigSep Finset.univ (blkOut m c) : sProp 𝕄)
      ⊢ iprop((bigSep Finset.univ fun x : Bool × Fin 4 => At c (kO x.1 x.2) 1)
        ∗ (bigSep Finset.univ fun x : Bool × Fin 4 => tP m c x.1 x.2.val)
        ∗ bigSep Finset.univ fun x : Bool × Fin 4 =>
            owns (c : Thread nD τ) (blk vM ((bwd x.1)^[x.2.val] c) (col x.1)) fullShare (outv m x.1 ((bwd x.1)^[x.2.val] c))) := by
  rw [← bigSep_sep', ← bigSep_sep']
  exact bigSep_mono fun x _ => by unfold blkOut; exact BI.Entails.refl _

theorem sep_bool (Φ : Bool → sProp 𝕄) : bigSep Finset.univ Φ = iprop(Φ false ∗ Φ true) :=
  bigSep_univ_eq_bigSepL [false, true] (by decide) (by decide) Φ

/-- A device's cells, all at their start. -/
theorem at_start (K : Dev nD × Fin 37 → ℕ) (c : Dev nD) :
    iprop(records m K ∗ bigSep Finset.univ fun k : Fin 37 => atPos ER (cell c k) 0 ∅ 0)
      ⊢ (bigSep Finset.univ fun k : Fin 37 => At c k 0 : sProp 𝕄) :=
  with_kept fun k _ => by
    unfold At
    iintro ⟨#HR, H⟩
    isplitl [H]; · iexact H
    iapply (rec_reached m K c k); iexact HR

/-- From what the launch deals to what the body needs. -/
theorem enter (K : Dev nD × Fin 37 → ℕ) (c : Dev nD) :
    iprop(records m K ∗ linear c ∗ (cred (tallyAt (cell c 0) () 2) ∗ bigSep Finset.univ fun x : Bool × Fin 6 => cr c (kR x.1 x.2))
      ∗ (((c : Thread nD τ).loc main_arg0) ↦{fullShare} m ((c : Thread nD τ).loc main_arg0))
      ∗ (((c : Thread nD τ).loc main_v1) ↦{fullShare} m ((c : Thread nD τ).loc main_v1))
      ∗ Pipeline.scopedRest cfg0.spec c ∗ owns (c : Thread nD τ) wM fullShare (wS m c) ∗ Owes c 14)
      ⊢ bodyIn m c := by
  have hrest := Entails.of_eq (scopedRest0_eq (Ix := Unit) (Val := Elt F) (Name := ℕ) (U := UU) (Lvl := ℕ) c)
  have hat := Entails.of_eq (sep_cells (F := F) (fun k => At c k 0))
  have hbar := Entails.of_eq (sep_bool (F := F) (fun d => dutyTok ER (cell (bwd d c) 0) 0 d))
  unfold linear payToks bodyIn strIn
  iintro ⟨#HR, ⟨Hat, HtS, HtR, HtL, HtO, HtB⟩, ⟨Hc0, Hcr⟩, Ha, Hv, Hrest, HW, HO⟩
  ihave Hr := hrest $$ Hrest
  icases Hr with ⟨H0, H1, H2, H3, H4, H5⟩
  ihave Hb := hbar $$ HtB
  icases Hb with ⟨HbF, HbT⟩
  ihave Hst := (at_start m K c) $$ [Hat]
  · isplitr; · iexact HR
    iexact Hat
  ihave Hs := hat $$ Hst
  icases Hs with ⟨HA0, HAS, HAR, HAO, HA1, HA3, HA2, HA4⟩
  ihave Ht := (arg_split m c) $$ Ha
  ihave Hres := (res_split c (m ((c : Thread nD τ).loc main_v1))) $$ Hv
  isplitl [HtS HtR HAS HAR Hcr]
  · iapply (hops_from (F := F) c)
    isplitl [HtS]; · iexact HtS
    isplitl [HtR]; · iexact HtR
    isplitl [HAS]; · iexact HAS
    isplitl [HAR]; · iexact HAR
    iexact Hcr
  isplitl [HtL HtO HAO Ht Hres]
  · iapply (blks_from m c)
    isplitl [HtL]; · iexact HtL
    isplitl [HtO]; · iexact HtO
    isplitl [HAO]; · iexact HAO
    isplitl [Ht]; · iexact Ht
    iexact Hres
  isplitl [HA1 HA3 HbF H0 H4 H2]
  · isplitl [HA1]; · iexact HA1
    isplitl [HA3]; · iexact HA3
    isplitl [HbF]; · iexact HbF
    isplitl [H0]; · iapply (any_of_0 c); iexact H0
    isplitl [H4]; · iapply (any_of_4 c); iexact H4
    iapply (any_of_2 c); iexact H2
  isplitl [HA2 HA4 HbT H1 H5 H3]
  · isplitl [HA2]; · iexact HA2
    isplitl [HA4]; · iexact HA4
    isplitl [HbT]; · iexact HbT
    isplitl [H1]; · iapply (any_of_1 c); iexact H1
    isplitl [H5]; · iapply (any_of_5 c); iexact H5
    iapply (any_of_3 c); iexact H3
  isplitl [HA0]; · iexact HA0
  isplitl [Hc0]; · iexact Hc0
  isplitl [HW]; · iexact HW
  iexact HO

/-! ## After the body -/

/-- The round a cell ends at. -/
def rEnd (k : Fin 37) : ℕ := if k.val = 3 ∨ k.val = 4 then 3 else 1

/-- A device's cells, all at their end, are closed. -/
theorem close_all (K : Dev nD × Fin 37 → ℕ) (c : Dev nD) :
    iprop(records m K ∗ bigSep Finset.univ fun k : Fin 37 => At c k (rEnd k))
      ⊢ (|={Set.univ}=> bigSep Finset.univ fun k : Fin 37 => semVal (cell c k) 0 : sProp 𝕄) := by
  refine BIBase.Entails.trans (with_kept (Ψ := fun k : Fin 37 => iprop(cellInv ER (Rd m) (K (c, k)) (cell c k) ∗ atPos ER (cell c k) (rEnd k) ∅ 0)) fun k _ => ?_)
    (Rounds.cells_close ER (Rd m) Finset.univ (cell c) (fun k => K (c, k)) (fun _ _ => Set.mem_univ _) (fun _ _ h => h) rEnd
      fun k _ r hr => ?_)
  · unfold At
    iintro ⟨#HR, H, -⟩
    isplitr; · iapply (rec_inv m K c k); iexact HR
    iexact H
  · unfold rEnd at hr
    by_cases h : k.val = 3 ∨ k.val = 4
    · rw [if_pos h] at hr; exact duties_late m _ r hr
    · rw [if_neg h] at hr; exact duties_once m c k (fun h3 => h (Or.inl h3)) (fun h4 => h (Or.inr h4)) r hr

theorem end_S (d : Bool) (q : Fin 6) : rEnd (kS d q) = 1 := by revert d q; decide
theorem end_R (d : Bool) (q : Fin 6) : rEnd (kR d q) = 1 := by revert d q; decide
theorem end_O (d : Bool) (i : Fin 4) : rEnd (kO d i) = 1 := by revert d i; decide

/-- The cells' ends, collected. -/
theorem at_end (c : Dev nD) :
    iprop(At c 0 1 ∗ (bigSep Finset.univ fun x : Bool × Fin 6 => At c (kS x.1 x.2) 1)
      ∗ (bigSep Finset.univ fun x : Bool × Fin 6 => At c (kR x.1 x.2) 1)
      ∗ (bigSep Finset.univ fun x : Bool × Fin 4 => At c (kO x.1 x.2) 1) ∗ At c 1 1 ∗ At c 3 3 ∗ At c 2 1 ∗ At c 4 3)
      ⊢ (bigSep Finset.univ fun k : Fin 37 => At c k (rEnd k) : sProp 𝕄) := by
  rw [sep_cells]
  simp only [end_S, end_R, end_O]
  exact (show (_ : sProp 𝕄) ⊢ _ from .rfl)

/-- What a device has when its body is done. -/
def Φ₁ (c : Dev nD) : sProp 𝕄 :=
  iprop((bigSep Finset.univ fun k : Fin 37 => semVal (cell c k) 0)
    ∗ (((c : Thread nD τ).loc main_arg0) ↦{fullShare} m ((c : Thread nD τ).loc main_arg0))
    ∗ (((c : Thread nD τ).loc main_v1) ↦{fullShare} outFull m)
    ∗ Pipeline.scopedRest cfg0.spec c)

/-- From what the body leaves to what the launch takes back. -/
theorem leave (K : Dev nD × Fin 37 → ℕ) (c : Dev nD) :
    iprop(records m K ∗ bodyOut m c)
      ⊢ (|={Set.univ}=> iprop(Φ₁ m c ∗ owns (c : Thread nD τ) wM fullShare (wS m c) ∗ Owes c 0) : sProp 𝕄) := by
  have hrest := Entails.of_eq (scopedRest0_eq (Ix := Unit) (Val := Elt F) (Name := ℕ) (U := UU) (Lvl := ℕ) c).symm
  unfold bodyOut strOut Φ₁
  iintro ⟨#HR, Hh, Hb, ⟨HA1, HA3, H0, H4, H2⟩, ⟨HA2, HA4, H1, H5, H3⟩, HA0, HW, HO⟩
  ihave Hh' := (hops_done (F := F) c) $$ Hh
  icases Hh' with ⟨HAS, HAR⟩
  ihave Hb' := (blks_done m c) $$ Hb
  icases Hb' with ⟨HAO, Ht, Hres⟩
  ihave Hat := (at_end (F := F) c) $$ [HA0 HAS HAR HAO HA1 HA3 HA2 HA4]
  · isplitl [HA0]; · iexact HA0
    isplitl [HAS]; · iexact HAS
    isplitl [HAR]; · iexact HAR
    isplitl [HAO]; · iexact HAO
    isplitl [HA1]; · iexact HA1
    isplitl [HA3]; · iexact HA3
    isplitl [HA2]; · iexact HA2
    iexact HA4
  imod (close_all m K c) $$ [Hat] with Hz
  · isplitr; · iexact HR
    iexact Hat
  imodintro
  isplitl [Hz Ht Hres H0 H1 H2 H3 H4 H5]
  · isplitl [Hz]; · iexact Hz
    isplitl [Ht]; · iapply (arg_join m c); iexact Ht
    isplitl [Hres]; · iapply (res_join m c); iexact Hres
    iapply hrest
    isplitl [H0]; · iapply (any_to_0 c); iexact H0
    isplitl [H1]; · iapply (any_to_1 c); iexact H1
    isplitl [H2]; · iapply (any_to_2 c); iexact H2
    isplitl [H3]; · iapply (any_to_3 c); iexact H3
    isplitl [H4]; · iapply (any_to_4 c); iexact H4
    iapply (any_to_5 c); iexact H5
  isplitl [HW] <;> iassumption

/-! ## The pipeline's one point -/

/-- What a device has when its body starts, but for the scratch buffers. -/
def start (c : Dev nD) : sProp 𝕄 :=
  iprop(G' m c ∗ levAts L lv ∗ (cred (tallyAt (cell c 0) () 2) ∗ bigSep Finset.univ fun x : Bool × Fin 6 => cr c (kR x.1 x.2))
    ∗ (((c : Thread nD τ).loc main_arg0) ↦{fullShare} m ((c : Thread nD τ).loc main_arg0))
    ∗ (((c : Thread nD τ).loc main_v1) ↦{fullShare} m ((c : Thread nD τ).loc main_v1)))

def Φ₀ (c : Dev nD) : sProp 𝕄 := iprop(start m c ∗ Pipeline.scopedRest cfg0.spec c)

/-- The memory at launch. -/
def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wS m c
  Φ t := match t with
    | ⟨0, _⟩ => Φ₀ m c
    | ⟨_ + 1, _⟩ => Φ₁ m c
  q _ := fullShare
  owed t := match t with
    | ⟨0, _⟩ => Ow c 14
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))

def bodyPost (c : Dev nD) : sProp 𝕄 :=
  iprop(Φ₁ m c ∗ (dats m ρ 0 c).owesAt () t0_0.succ ∗ stg c cc0_stg0_0 (wS m c))

/-- The body, from the pipeline's precondition to its postcondition. -/
theorem body_run (c : Dev nD) : bodyPre m ρ c ⊢ run c (onArgs (cc0_body (F := F))) (fun _ => bodyPost m ρ c) := by
  unfold run
  refine BIBase.Entails.trans ?_ (wp_fupd _ _ _ _ _)
  unfold bodyPre Φ₀ start G' Dat.owesAt Pipeline.owesWithin
  iintro ⟨⟨⟨⟨%K, HB, Hlin⟩, Hlev, Hcr, Ha, Hv⟩, Hrest⟩, ⟨%W, %hW, HO⟩, ⟨%d0, %g0, %hg0, Hx⟩⟩
  have hx : g0 = wS m c := by rw [hg0]; unfold Dat.before; rw [if_pos (fetch0_0 t0_0)]; rfl
  subst hx
  ihave #HR := (show iprop(base m K ∗ levAts L lv) ⊢ records m K from by
    unfold base records; iintro ⟨⟨H1, H2⟩, H3⟩
    isplitl [H1]; · iexact H1
    isplitl [H2] <;> iassumption) $$ [HB Hlev]
  · isplitl [HB] <;> iassumption
  ihave HW := (Entails.of_eq (owns_whole (c : Thread nD τ) cc0_stg0_0 fullShare (wS m c)).symm) $$ Hx
  ihave Hin := (enter m K c) $$ [Hlin Hcr Ha Hv Hrest HW HO]
  · isplitr; · iexact HR
    isplitl [Hlin]; · iexact Hlin
    isplitl [Hcr]; · iexact Hcr
    isplitl [Ha]; · iexact Ha
    isplitl [Hv]; · iexact Hv
    isplitl [Hrest]; · iexact Hrest
    isplitl [HW]; · iexact HW
    unfold Owes
    iexists W; iexact HO
  iapply (sound_body m K c) $$ [Hin]
  · isplitr; · iexact HR
    iexact Hin
  iintro Hout
  imod (leave m K c) $$ [Hout] with ⟨H1, HW, HO⟩
  · isplitr; · iexact HR
    iexact Hout
  imodintro
  unfold bodyPost Dat.owesAt Pipeline.owesWithin
  isplitl [H1]; · iexact H1
  isplitl [HO]
  · unfold Owes
    icases HO with ⟨%W', HO⟩
    iexists W'
    isplitr; · ipureintro; exact fun _ _ => Or.inl trivial
    iexact HO
  iexists (wS m c)
  isplitr; · (ipureintro; rfl)
  iapply (Entails.of_eq (owns_whole (c : Thread nD τ) cc0_stg0_0 fullShare (wS m c)))
  iexact HW

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## The launch -/

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t => by
    have h0 : lvS (.dma ((cfg0.win w).sem s)) = 0 := by fin_cases w <;> fin_cases s <;> decide
    rcases t with ⟨_ | _, ht⟩
    · exact mayWait c _ 14 le_rfl fun i hi => by rw [h0]; unfold lvOf; split <;> omega
    · exact mayWait c _ 0 (by decide) fun i hi => absurd hi (Nat.not_lt_zero i)

theorem start_intro (c : Dev nD) :
    iprop(Pipeline.unscopedRestP Pipeline.Prefetch.none cfg0.spec c (fun b => m ((c : Thread nD τ).loc b)) ∗ levAts L lv
        ∗ Pipeline.launchCred (fun c => Ow c 14) c ∗ prngReg c (ρ c) ∗ G' m c)
      ⊢ |={Set.univ}=> iprop(start m c ∗ emp) := by
  have hrest := (Entails.of_eq ((Pipeline.unscopedRestP_none (Ix := Unit) (Name := ℕ) (U := UU) (Lvl := ℕ) cfg0.spec c (fun b => m ((c : Thread nD τ).loc b))).trans
    (unscopedRest0_eq (Ix := Unit) (Val := Elt F) (Name := ℕ) (U := UU) (Lvl := ℕ) c (fun b => m ((c : Thread nD τ).loc b)))))
  iintro ⟨Hr, Hlev, Hcr, -, HG⟩
  ihave Hr' := hrest $$ Hr
  icases Hr' with ⟨Ha, Hv⟩
  ihave Hc := (creds (F := F) c) $$ Hcr
  imodintro
  unfold start
  isplitl
  · isplitl [HG]; · iexact HG
    isplitl [Hlev]; · iexact Hlev
    isplitl [Hc]; · iexact Hc
    isplitl [Ha]; · iexact Ha
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

/-- What is read off a device at the end. -/
def ends (c : Dev nD) : sProp 𝕄 :=
  iprop(unscopedSems0 c ∗ (((c : Thread nD τ).loc main_arg0) ↦{fullShare} m ((c : Thread nD τ).loc main_arg0))
    ∗ (((c : Thread nD τ).loc main_v1) ↦{fullShare} outFull m))

theorem phi1_exit (c : Dev nD) :
    (dats m ρ 0 c).Φ (Fin.last cfg0.N) ⊢ iprop(ends m c ∗ Pipeline.ownSems0 osem c ∗ Pipeline.scopedRest cfg0.spec c) := by
  have hsem := Entails.of_eq (sems_eq (F := F) c).symm
  rw [show (dats m ρ 0 c).Φ (Fin.last cfg0.N) = Φ₁ m c from rfl]
  unfold Φ₁ ends
  iintro ⟨Hz, Ha, Hv, Hr⟩
  ihave Hs := hsem $$ Hz
  icases Hs with ⟨Hu, Ho⟩
  isplitl [Hu Ha Hv]
  · isplitl [Hu]; · iexact Hu
    isplitl [Ha] <;> iassumption
  isplitl [Ho] <;> iassumption

/-- A buffer held whole is read off the final memory. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr; · ipureintro; exact Buf.eq_of_forall_mem_univ h
  iexact HSI

/-- What holds of a device in the final memory. -/
def Ends (c : Dev nD) (s : MemSt nD τ sig (Elt F)) : Prop :=
  s.mem ((c : Thread nD τ).loc main_arg0) = m ((c : Thread nD τ).loc main_arg0) ∧ s.mem ((c : Thread nD τ).loc main_v1) = outFull m
    ∧ ∀ sm : SemLoc sig, sm.isScoped .tc = false → s.sem ((c.tc : Thread nD τ), sm) = 0

theorem read_ends (c : Dev nD) (s' : Phys nD τ sig (Elt F)) :
    iprop(ends m c ∗ emp ∗ SI s') ⊢ |={Set.univ}=> (iprop(⌜Ends m c s'.mem⌝ ∗ SI s') : sProp 𝕄) := by
  unfold ends
  iintro ⟨⟨Hu, Ha, Hv⟩, -, HSI⟩
  ihave H1 := (read_one (F := F) _ _ s') $$ [Ha HSI]
  · isplitl [Ha] <;> iassumption
  icases H1 with ⟨%h1, HSI⟩
  ihave H2 := (read_one (F := F) _ _ s') $$ [Hv HSI]
  · isplitl [Hv] <;> iassumption
  icases H2 with ⟨%h2, HSI⟩
  imod (Pipeline.unscopedSems0_read (X := unscopedSems0 c) (c := c) fupd_intro s') $$ [Hu HSI] with ⟨%h3, HSI⟩
  · isplitl [Hu] <;> iassumption
  imodintro
  isplitr
  · ipureintro; exact ⟨h1, h2, h3⟩
  iexact HSI

/-- The two arguments after the run. -/
def Kept (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)

/-- From any memory and zero semaphores, every run of the four devices' programs ends, with each device's result at
    `outFull`, its arguments as they were and every semaphore at zero. -/
theorem run_main : θ_run defs (onTc (τ := τ) (main (F := F))) (s₀ m ρ)
    (fun r => (∀ c : Dev nD, r.2.mem ((c : Thread nD τ).loc main_v1) = outFull m ∧ Kept m r.2 c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => Ow c 14) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := ends m) (Z := fun _ => iprop(emp))
    (hX := start_intro m ρ) (hin := phi0_intro m ρ) (hout := phi1_exit m ρ)
    (QY := Ends m) (hY := read_ends m)
    (hQ := fun s h hs => ⟨fun c => ⟨(h c).2.2.2.1, (h c).2.2.1,
      ((h c).1 (0 : Fin 1)).trans ((dats (F := F) m ρ 0 c).arrAt_in (0 : Fin 1) rfl _)⟩, sem_eq_zero hs fun c => (h c).2.2.2.2⟩)

end Cert.Ring

end
-- ==== Proof.Value.lean ====
/-
# The value of the result

Over the extended reals every cast is the identity, so both programs compute the sum over the devices of their blocks of
the first argument, times the second argument. The kernel adds the four blocks in the order of the ring, and takes each
product in two halves of the summation index.
-/
module

public import proofs.«01_k».proof.Proof.Launch
public import proofs.«01_k».proof.Proof.Gen.ReferenceIdeal.Run
public import Idealize.ShloMosaic.Lib.Pointwise
public import Idealize.ShloMosaic.Lib.Layout

@[expose] public section

set_option maxRecDepth 16384

noncomputable section

namespace Cert.Ring

open Idealize.ShloMosaic Idealize.ShloMosaic.TcCoe

/-- The blocks of the first argument added over the devices, times the second argument. -/
def spec (X : FVec Ideal ⟨2, ![32768, 2048]⟩ .bf16) (W : FVec Ideal ⟨2, ![2048, 2048]⟩ .bf16) (r : Fin 8192) (q : Fin 2048) : Elt Ideal .bf16 :=
  ∑ k : Fin 2048, (∑ e : Fin 4, X (ix2 ⟨e.val * 8192 + r.val, by omega⟩ k)) * W (ix2 k q)

section Reference
open Cert.ReferenceIdeal Cert.ReferenceIdeal.Gen

/-- The reference's result, as its run states it. -/
def refv (X : FVec Ideal S32768x2048 .bf16) (W : FVec Ideal S2048x2048 .bf16) : FVec Ideal S8192x2048 .bf16 :=
  truncf .bf16 (Host.dotGeneral dot_S8192x2048_S2048x2048_S8192x2048_1_0_0_1_n_n none (truncf .bf16 (Host.reduceAdd (extf .f32 (shapeCast _ X shapeCasts_S32768x2048_S4x8192x2048) bitsLt_bf16_f32) (constant S_ .f32 0x00000000#32) reducesTo_S4x8192x2048_S8192x2048_d0 h_S_) bitsLt_bf16_f32) W) bitsLt_bf16_f32

/-- The reference computes `spec`. -/
theorem ref_apply (X : FVec Ideal S32768x2048 .bf16) (W : FVec Ideal S2048x2048 .bf16) (r : Fin 8192) (q : Fin 2048) :
    refv X W (ix2 r q) = spec X W r q := by
  unfold spec
  pointwise [refv]

end Reference

section Kernel
open Cert.KernelIdeal Cert.KernelIdeal.Gen

/-- One block of the product: the two halves of the summation index. -/
theorem pay_apply (A B C D : FVec Ideal S1024x1024 .bf16) (r q : Fin 1024) :
    k0_pay10 A B (k0_pay9 C) D (ix2 r q) = (∑ k : Fin 1024, A (ix2 r k) * C (ix2 k q)) + ∑ k : Fin 1024, B (ix2 r k) * D (ix2 k q) := by
  pointwise [k0_pay10, k0_pay9]

variable (m : (ℓ : Loc nD τ sig) → Buf (Elt Ideal) ℓ)
variable (X : FVec Ideal ⟨2, ![32768, 2048]⟩ .bf16) (W : FVec Ideal ⟨2, ![2048, 2048]⟩ .bf16)

/-- Each device's arguments are its block of the first array and a copy of the second. -/
def Placed : Prop := ∀ c : Dev nD,
  m ((c.tc : Thread nD τ).loc main_arg0) = Layout.block ⟨2, ![8192, 2048]⟩ ⟨2, ![32768, 2048]⟩ 0 4 c X
    ∧ m ((c.tc : Thread nD τ).loc main_arg1) = W

variable {m X W} (h : Placed m X W)
include h

/-- A block of the argument, by place. -/
theorem tBlk_apply (c e : Dev nD) (d : Bool) (r : Fin 2048) (k : Fin 1024) :
    tBlk m c e d (ix2 r k) = X (ix2 ⟨c.val * 8192 + (2048 * e.val + r.val), by have h1 : c.val < 4 := c.isLt; have h2 : e.val < 4 := e.isLt; omega⟩
      ⟨1024 * (col d).val + k.val, by omega⟩) := by
  have h0 : tBlk m c e d (ix2 r k) = m ((c.tc : Thread nD τ).loc main_arg0) ((blkR e (col d)).emb (ix2 r k)) := rfl
  rw [h0, (h c).1, Layout.block_apply]
  refine congrArg X (funext fun a => Fin.ext ?_)
  rw [Layout.Tiles.idx_val]
  fin_cases a
  · show c.val * 8192 + (2048 * e.val + 1 * r.val) = c.val * 8192 + (2048 * e.val + r.val); omega
  · show 1024 * (col d).val + 1 * k.val = 1024 * (col d).val + k.val; omega

omit h in
/-- The row chunk that comes round to a device is its own. -/
theorem ch_home (d : Bool) (c : Dev nD) :
    ch d 0 (bwd d (bwd d (bwd d c))) = c ∧ ch d 1 (bwd d (bwd d c)) = c ∧ ch d 2 (bwd d c) = c ∧ ch d 3 c = c := by
  revert d c; decide

/-- The last running sum is the sum over the devices. -/
theorem acc_apply (d : Bool) (c : Dev nD) (r : Fin 2048) (k : Fin 1024) :
    acc m d 3 c (ix2 r k) = ∑ e : Fin 4, X (ix2 ⟨e.val * 8192 + (2048 * c.val + r.val), by have h1 : c.val < 4 := c.isLt; omega⟩
      ⟨1024 * (col d).val + k.val, by omega⟩) := by
  obtain ⟨h0, h1, h2, h3⟩ := ch_home d c
  have e1 : acc m d 3 c (ix2 r k) = tBlk m (bwd d (bwd d (bwd d c))) (ch d 0 (bwd d (bwd d (bwd d c)))) d (ix2 r k)
      + tBlk m (bwd d (bwd d c)) (ch d 1 (bwd d (bwd d c))) d (ix2 r k) + tBlk m (bwd d c) (ch d 2 (bwd d c)) d (ix2 r k)
      + tBlk m c (ch d 3 c) d (ix2 r k) := rfl
  rw [e1, h0, h1, h2, h3, tBlk_apply h, tBlk_apply h, tBlk_apply h, tBlk_apply h]
  rw [← Function.Bijective.sum_comp ⟨bwd_inj c d, bwd_surj c d⟩ (fun e : Fin 4 => X (ix2 ⟨e.val * 8192 + (2048 * c.val + r.val), by have h1 : c.val < 4 := c.isLt; omega⟩
      ⟨1024 * (col d).val + k.val, by omega⟩)), Fin.sum_univ_four]
  show _ = X (ix2 ⟨c.val * 8192 + _, _⟩ _) + X (ix2 ⟨(bwd d c).val * 8192 + _, _⟩ _) + X (ix2 ⟨(bwd d (bwd d c)).val * 8192 + _, _⟩ _)
    + X (ix2 ⟨(bwd d (bwd d (bwd d c))).val * 8192 + _, _⟩ _)
  ac_rfl

/-- The staged weight is the second argument. -/
theorem wQ_apply (c : Dev nD) (i j : Fin 2) (a b : Fin 1024) :
    wQ m c i j (ix2 a b) = W (ix2 ⟨1024 * i.val + a.val, by omega⟩ ⟨1024 * j.val + b.val, by omega⟩) := by
  have h0 : wQ m c i j (ix2 a b) = m ((c.tc : Thread nD τ).loc main_arg1) ((win0_0.blk (0 : Fin 1)).view.emb ((wR i j).emb (ix2 a b))) := rfl
  rw [h0, (h c).2]
  refine congrArg W (funext fun x => Fin.ext ?_)
  fin_cases x
  · show 0 * 2048 + 1 * (1024 * i.val + 1 * a.val) = 1024 * i.val + a.val; omega
  · show 0 * 2048 + 1 * (1024 * j.val + 1 * b.val) = 1024 * j.val + b.val; omega

/-- One block of the product is `spec` there. -/
theorem outQ_apply (c : Dev nD) (w : Fin 2) (d : Bool) (a b : Fin 1024) :
    outQ m c w d (ix2 a b) = spec X W ⟨2048 * c.val + (1024 * w.val + a.val), by have h1 : c.val < 4 := c.isLt; omega⟩ ⟨1024 * (col d).val + b.val, by omega⟩ := by
  unfold outQ
  rw [pay_apply]
  unfold spec
  rw [Fin.sum_univ_two_halves 1024 1024 rfl]
  have hr (d' : Bool) (k : Fin 1024) : rowHalf w (acc m d' 3 c) (ix2 a k) = acc m d' 3 c (ix2 ⟨1024 * w.val + a.val, by omega⟩ k) := by
    unfold rowHalf
    refine congrArg (acc m d' 3 c) (funext fun x => Fin.ext ?_)
    fin_cases x
    · show 1024 * w.val + 1 * a.val = 1024 * w.val + a.val; omega
    · show 0 + 1 * k.val = k.val; omega
  congr 1
  · refine Finset.sum_congr rfl fun k _ => ?_
    rw [hr, acc_apply h, wQ_apply h]
    refine congrArg₂ _ (Finset.sum_congr rfl fun e _ => congrArg X (congrArg₂ ix2 (Fin.ext rfl) (Fin.ext ?_))) (congrArg W (congrArg₂ ix2 (Fin.ext ?_) rfl))
    · show 1024 * 0 + k.val = k.val; omega
    · show 1024 * 0 + k.val = k.val; omega
  · refine Finset.sum_congr rfl fun k _ => ?_
    rw [hr, acc_apply h, wQ_apply h]
    refine congrArg₂ _ (Finset.sum_congr rfl fun e _ => congrArg X (congrArg₂ ix2 (Fin.ext rfl) (Fin.ext ?_))) (congrArg W (congrArg₂ ix2 (Fin.ext ?_) rfl))
    · show 1024 * 1 + k.val = 1024 + k.val; omega
    · show 1024 * 1 + k.val = 1024 + k.val; omega

/-- The kernel computes `spec`. -/
theorem out_apply (r : Fin 8192) (q : Fin 2048) : outFull m (ix2 r q) = spec X W r q := by
  have hq : 1024 * (col (decide (1024 ≤ q.val))).val + q.val % 1024 = q.val := by
    by_cases h1 : 1024 ≤ q.val
    · rw [decide_eq_true h1]; show 1024 * 1 + _ = _; omega
    · rw [decide_eq_false h1]; show 1024 * 0 + _ = _; omega
  show outv m (decide (1024 ≤ q.val)) ⟨r.val / 2048, _⟩ (ValueIdx.ix2 ⟨r.val % 2048, _⟩ ⟨q.val % 1024, _⟩) = _
  unfold outv
  split
  · rename_i h1
    have h1 : r.val % 2048 < 1024 := h1
    refine (outQ_apply h _ 0 _ ⟨r.val % 2048, h1⟩ ⟨q.val % 1024, Nat.mod_lt _ (by decide)⟩).trans ?_
    congr 1
    · refine Fin.ext ?_; show 2048 * (r.val / 2048) + (1024 * 0 + r.val % 2048) = r.val; omega
    · exact Fin.ext hq
  · rename_i h1
    have h1 : ¬ r.val % 2048 < 1024 := h1
    refine (outQ_apply h _ 1 _ ⟨r.val % 2048 - 1024, by omega⟩ ⟨q.val % 1024, Nat.mod_lt _ (by decide)⟩).trans ?_
    congr 1
    · refine Fin.ext ?_; show 2048 * (r.val / 2048) + (1024 * 1 + (r.val % 2048 - 1024)) = r.val; omega
    · exact Fin.ext hq

/-- The kernel's result is the reference's. -/
theorem out_eq : outFull m = refv X W := by
  funext i
  obtain ⟨r, q, rfl⟩ : ∃ (r : Fin 8192) (q : Fin 2048), i = ix2 r q := ⟨i 0, i 1, eq_ix2 i⟩
  rw [out_apply h, ref_apply]

end Kernel
end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

section Same
local instance : Cert.Kernel.Facts := Cert.Kernel.Gen.facts
local instance : Cert.KernelIdeal.Facts := Cert.KernelIdeal.Gen.facts

/-- The two programs have the same text, so their kernel tables agree: at the one label both run the same body. -/
theorem defs₀_eq : (Cert.Kernel.defs₀ (F := Bits)) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

/-- So do their whole tables. -/
theorem defs_eq : (Cert.Kernel.defs (F := Bits)) = Cert.KernelIdeal.defs (F := Bits) :=
  congrArg (Pipeline.defs (Cert.KernelIdeal.pcfgs (F := Bits))) defs₀_eq

end Same

/-- The printed kernel runs, leaves its arguments as they were and every semaphore at zero. -/
theorem frame_kernel : Cert.quiescent_Kernel (hKernel := Cert.Kernel.Gen.facts) := fun m ρ _ => by
  rw [defs_eq]
  exact (θ_run Cert.KernelIdeal.defs _ _).mono (fun _ h => ⟨fun c => (h.1 c).2, h.2⟩) (Cert.Ring.run_main (F := Bits) m ρ)

/-- The same of the kernel read over the extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.Ring.run_main (F := Ideal) m ρ)

/-- The same of the reference. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result on every device is the reference's. -/
theorem algebraic : Cert.algebraic_KernelIdeal_ReferenceIdeal (hKernelIdeal := Cert.KernelIdeal.Gen.facts) (hReferenceIdeal := Cert.ReferenceIdeal.Gen.facts) :=
  fun m g m' g' _ h => by
    have hv := Cert.Ring.out_eq (m := m) (X := m' (((0 : Dev Cert.ReferenceIdeal.nD).tc : Thread Cert.ReferenceIdeal.nD Cert.ReferenceIdeal.τ).loc Cert.ReferenceIdeal.main_arg0))
      (W := m' (((0 : Dev Cert.ReferenceIdeal.nD).tc : Thread Cert.ReferenceIdeal.nD Cert.ReferenceIdeal.τ).loc Cert.ReferenceIdeal.main_arg1)) h
    refine ⟨_, ?_, (θ_run Cert.ReferenceIdeal.defs _ _).mono (fun _ h => h 0) (Cert.ReferenceIdeal.Value.run (F := Ideal) m' g')⟩
    exact (θ_run Cert.KernelIdeal.defs _ _).mono (fun _ h c => ⟨(h.1 c).1.trans hv, (h.1 c).2⟩) (Cert.Ring.run_main (F := Ideal) m g)

/-- Everything claimed. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
